-- ==== Defs.lean ====
def Pre_Kernel [hPre_lengths_in_range : Cert.Pre_lengths_in_range.Facts] (m : (ℓ : Loc Cert.Kernel.nD Cert.Kernel.τ Cert.Kernel.sig) → Buf (Elt Bits) ℓ) : Prop :=
  ∀ c : Dev Cert.Kernel.nD,
    (Cert.Pre_lengths_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_lengths_in_range : Cert.Pre_lengths_in_range.Facts),
    quiescent_Kernel (hKernel := hKernel) (hPre_lengths_in_range := hPre_lengths_in_range)
    ∧ quiescent_KernelIdeal (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ preserves_Kernel_KernelIdeal
    ∧ algebraic_KernelIdeal_ReferenceIdeal (hKernelIdeal := hKernelIdeal) (hReferenceIdeal := hReferenceIdeal) (hPre_lengths_in_range := hPre_lengths_in_range)
-- ==== Pre_lengths_in_range.lean ====
abbrev S8x2048x128 : Shape := ⟨3, ![8, 2048, 128]⟩
abbrev S8x2048x2048 : Shape := ⟨3, ![8, 2048, 2048]⟩
abbrev S8 : Shape := ⟨1, ![8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x2048x128 .f32) (main_arg1 : FVec F S8x2048x2048 .f32) (main_arg2 : IVec S8 32) (main_arg3 : FVec F S128x64 .f32) (main_arg4 : FVec F S64 .f32) (main_arg5 : FVec F S64x32 .f32) (main_arg6 : FVec F S32 .f32) (main_arg7 : FVec F S32x1 .f32) (main_arg8 : FVec F S1 .f32) : IVec S_ 1 :=
  let main_c : IVec S_ 32 := constantI S_ 32 1#32
  let main_v0 : IVec S8 32 := broadcastInDim S8 ![] bcast_S_S8 main_c
  let main_v1 : IVec S8 1 := cmpi .sge main_arg2 main_v0
  let main_c_0 : IVec S_ 32 := constantI S_ 32 2048#32
  let main_v2 : IVec S8 32 := broadcastInDim S8 ![] bcast_S_S8 main_c_0
  let main_v3 : IVec S8 1 := cmpi .sle main_arg2 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Kernel.lean ====
abbrev S8x2048x128 : Shape := ⟨3, ![8, 2048, 128]⟩
abbrev S8x2048x2048 : Shape := ⟨3, ![8, 2048, 2048]⟩
abbrev S8 : Shape := ⟨1, ![8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S1x32 : Shape := ⟨2, ![1, 32]⟩
abbrev S1x1 : Shape := ⟨2, ![1, 1]⟩
abbrev S8x1 : Shape := ⟨2, ![8, 1]⟩
abbrev S1x2048x128 : Shape := ⟨3, ![1, 2048, 128]⟩
abbrev S3x2048x2048 : Shape := ⟨3, ![3, 2048, 2048]⟩
abbrev S2x2048x32 : Shape := ⟨3, ![2, 2048, 32]⟩
abbrev S3 : Shape := ⟨1, ![3]⟩
abbrev S4 : Shape := ⟨1, ![4]⟩
abbrev S_ : Shape := ⟨0, ![]⟩
abbrev S1x512x2048 : Shape := ⟨3, ![1, 512, 2048]⟩
abbrev S512x2048 : Shape := ⟨2, ![512, 2048]⟩
abbrev S1x2048x2048 : Shape := ⟨3, ![1, 2048, 2048]⟩
abbrev S2048x2048 : Shape := ⟨2, ![2048, 2048]⟩
abbrev S512x1 : Shape := ⟨2, ![512, 1]⟩
abbrev S1x2048x32 : Shape := ⟨3, ![1, 2048, 32]⟩
abbrev S2048x32 : Shape := ⟨2, ![2048, 32]⟩
abbrev S512x32 : Shape := ⟨2, ![512, 32]⟩
abbrev S2048x128 : Shape := ⟨2, ![2048, 128]⟩
abbrev S2048x64 : Shape := ⟨2, ![2048, 64]⟩
abbrev S512x64 : Shape := ⟨2, ![512, 64]⟩
abbrev S1x512x32 : Shape := ⟨3, ![1, 512, 32]⟩

abbrev nBuf : Space → Nat
  | .hbm => 12
  | .vmem => 11
  | .smem => 1
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x64, .f32⟩
  | .hbm, ⟨9, _⟩ => ⟨S1x32, .f32⟩
  | .hbm, ⟨10, _⟩ => ⟨S1x1, .f32⟩
  | .hbm, ⟨11, _⟩ => ⟨S8x1, .f32⟩
  | .local _ .vmem, ⟨0, _⟩ => ⟨S1x2048x128, .f32⟩
  | .local _ .vmem, ⟨1, _⟩ => ⟨S1x2048x128, .f32⟩
  | .local _ .vmem, ⟨2, _⟩ => ⟨S128x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S32x1, .f32⟩
  | .local _ .vmem, ⟨7, _⟩ => ⟨S1x1, .f32⟩
  | .local _ .vmem, ⟨8, _⟩ => ⟨S8x1, .f32⟩
  | .local _ .vmem, ⟨9, _⟩ => ⟨S3x2048x2048, .f32⟩
  | .local _ .vmem, ⟨10, _⟩ => ⟨S2x2048x32, .f32⟩
  | .local _ .smem, ⟨0, _⟩ => ⟨S8, .i32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![9], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c1_i32 : BitVec 32 := 1#32
  let v3 : BitVec 32 := Scalar.addi arg0 c1_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_16 : BitVec 32 := 1#32
  let v31 : BitVec 32 := Scalar.addi arg0 c1_i32_16
  let c3_i32_17 : BitVec 32 := 3#32
  let c0_i32_18 : BitVec 32 := 0#32
  let v32 : BitVec 1 := Scalar.cmpi .eq c3_i32_17 c0_i32_18
  let c1_i32_19 : BitVec 32 := 1#32
  let v33 : BitVec 32 := Scalar.select v32 c1_i32_19 c3_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  ![v41.toNat]
def k0_off2 (i : grid0.Coords) : Fin 3 → Nat :=
  let arg0 : BitVec 32 := BitVec.ofNat 32 (i 0).val
  let c1_i32_10 : BitVec 32 := 1#32
  let v20 : BitVec 32 := Scalar.addi arg0 c1_i32_10
  let c3_i32 : BitVec 32 := 3#32
  let c0_i32_11 : BitVec 32 := 0#32
  let v21 : BitVec 1 := Scalar.cmpi .eq c3_i32 c0_i32_11
  let c1_i32_12 : BitVec 32 := 1#32
  let v22 : BitVec 32 := Scalar.select v21 c1_i32_12 c3_i32
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c0_i32_23 : BitVec 32 := 0#32
  let c0_i32_24 : BitVec 32 := 0#32
  ![v30.toNat, 0, 0]
def k0_off3 (i : grid0.Coords) : Fin 3 → Nat :=
  let arg0 : BitVec 32 := BitVec.ofNat 32 (i 0).val
  let c1_i32_9 : BitVec 32 := 1#32
  let v19 : BitVec 32 := Scalar.addi arg0 c1_i32_9
  let c0_i32_25 : BitVec 32 := 0#32
  let c0_i32_26 : BitVec 32 := 0#32
  ![v19.toNat, 0, 0]
def k0_cond3 (i : grid0.Coords) : BitVec 1 :=
  let arg0 : BitVec 32 := BitVec.ofNat 32 (i 0).val
  let c8_i32_2 : BitVec 32 := 8#32
  let v8 : BitVec 1 := Scalar.cmpi .eq arg0 c8_i32_2
  let v9 : BitVec 32 := Scalar.extui v8
  let c0_i32_3 : BitVec 32 := 0#32
  let v10 : BitVec 1 := Scalar.cmpi .ne v9 c0_i32_3
  v10

@[reducible] def k0_t1_loop (v19 : BitVec 32) : Scf.Loop 32 :=
  let c0_i32_18 : BitVec 32 := 0#32
  let c512_i32 : BitVec 32 := 512#32
  let v22 : BitVec 32 := Scalar.addi v19 c512_i32
  let c1_i32_10 : BitVec 32 := 1#32
  let v23 : BitVec 32 := Scalar.subi v22 c1_i32_10
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c512_i32_11 : BitVec 32 := 512#32
  let c0_i32_14 : BitVec 32 := 0#32
  let v30 : BitVec 1 := Scalar.cmpi .sgt c512_i32_11 c0_i32_14
  let v31 : BitVec 32 := Scalar.extui v30
  let c0_i32_15 : BitVec 32 := 0#32
  let v32 : BitVec 1 := Scalar.cmpi .slt c512_i32_11 c0_i32_15
  let v33 : BitVec 32 := Scalar.extui v32
  let v34 : BitVec 32 := Scalar.subi v31 v33
  let v35 : BitVec 1 := Scalar.cmpi .ne v29 v34
  let v36 : BitVec 32 := Scalar.remsi v23 c512_i32_11
  let c0_i32_16 : BitVec 32 := 0#32
  let v37 : BitVec 1 := Scalar.cmpi .ne v36 c0_i32_16
  let v38 : BitVec 1 := Scalar.andi v35 v37
  let v24 : BitVec 32 := Scalar.divsi v23 c512_i32_11
  let c1_i32_17 : BitVec 32 := 1#32
  let v39 : BitVec 32 := Scalar.subi v24 c1_i32_17
  let v40 : BitVec 32 := Scalar.select v38 v39 v24
  let v42 : BitVec 32 := Scalar.subi v40 c0_i32_18
  let c1_i32_19 : BitVec 32 := 1#32
  let v44 : BitVec 32 := Scalar.divsi v42 c1_i32_19
  let v45 : BitVec 32 := Scalar.muli v44 c1_i32_19
  let v46 : BitVec 32 := Scalar.addi c0_i32_18 v45
  let c1_i32_20 : BitVec 32 := 1#32
  ⟨c0_i32_18, v46, c1_i32_20⟩

def k0_off4 (v19 : BitVec 32) (k0_t1 : Fin (k0_t1_loop v19).trips) : Fin 3 → Nat :=
  let c1_30 : Index := 1#32
  let c0_i32_18 : BitVec 32 := 0#32
  let c1_i32_20 : BitVec 32 := 1#32
  let arg15 : BitVec 32 := Scf.iv c0_i32_18 c1_i32_20 k0_t1
  let c512_i32_29 : BitVec 32 := 512#32
  let v58 : BitVec 32 := Scalar.muli arg15 c512_i32_29
  let v59 : Index := Scalar.indexCast v58
  let c0_31 : Index := 0#32
  ![1, v59.toNat, 0]
@[reducible] def k0_t2_loop (v19 : BitVec 32) : Scf.Loop 32 :=
  let c0_i32_18 : BitVec 32 := 0#32
  let c512_i32 : BitVec 32 := 512#32
  let v22 : BitVec 32 := Scalar.addi v19 c512_i32
  let c1_i32_10 : BitVec 32 := 1#32
  let v23 : BitVec 32 := Scalar.subi v22 c1_i32_10
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c512_i32_11 : BitVec 32 := 512#32
  let c0_i32_14 : BitVec 32 := 0#32
  let v30 : BitVec 1 := Scalar.cmpi .sgt c512_i32_11 c0_i32_14
  let v31 : BitVec 32 := Scalar.extui v30
  let c0_i32_15 : BitVec 32 := 0#32
  let v32 : BitVec 1 := Scalar.cmpi .slt c512_i32_11 c0_i32_15
  let v33 : BitVec 32 := Scalar.extui v32
  let v34 : BitVec 32 := Scalar.subi v31 v33
  let v35 : BitVec 1 := Scalar.cmpi .ne v29 v34
  let v36 : BitVec 32 := Scalar.remsi v23 c512_i32_11
  let c0_i32_16 : BitVec 32 := 0#32
  let v37 : BitVec 1 := Scalar.cmpi .ne v36 c0_i32_16
  let v38 : BitVec 1 := Scalar.andi v35 v37
  let v24 : BitVec 32 := Scalar.divsi v23 c512_i32_11
  let c1_i32_17 : BitVec 32 := 1#32
  let v39 : BitVec 32 := Scalar.subi v24 c1_i32_17
  let v40 : BitVec 32 := Scalar.select v38 v39 v24
  let v42 : BitVec 32 := Scalar.subi v40 c0_i32_18
  let c1_i32_19 : BitVec 32 := 1#32
  let v44 : BitVec 32 := Scalar.divsi v42 c1_i32_19
  let v45 : BitVec 32 := Scalar.muli v44 c1_i32_19
  let v46 : BitVec 32 := Scalar.addi c0_i32_18 v45
  let v43 : BitVec 32 := Scalar.addi c0_i32_18 v42
  let c1_i32_21 : BitVec 32 := 1#32
  ⟨v46, v43, c1_i32_21⟩
def k0_off5 (v19 : BitVec 32) (k0_t2 : Fin (k0_t2_loop v19).trips) : Fin 3 → Nat :=
  let c1_30 : Index := 1#32
  let c0_i32_18 : BitVec 32 := 0#32
  let c512_i32 : BitVec 32 := 512#32
  let v22 : BitVec 32 := Scalar.addi v19 c512_i32
  let c1_i32_10 : BitVec 32 := 1#32
  let v23 : BitVec 32 := Scalar.subi v22 c1_i32_10
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c512_i32_11 : BitVec 32 := 512#32
  let c0_i32_14 : BitVec 32 := 0#32
  let v30 : BitVec 1 := Scalar.cmpi .sgt c512_i32_11 c0_i32_14
  let v31 : BitVec 32 := Scalar.extui v30
  let c0_i32_15 : BitVec 32 := 0#32
  let v32 : BitVec 1 := Scalar.cmpi .slt c512_i32_11 c0_i32_15
  let v33 : BitVec 32 := Scalar.extui v32
  let v34 : BitVec 32 := Scalar.subi v31 v33
  let v35 : BitVec 1 := Scalar.cmpi .ne v29 v34
  let v36 : BitVec 32 := Scalar.remsi v23 c512_i32_11
  let c0_i32_16 : BitVec 32 := 0#32
  let v37 : BitVec 1 := Scalar.cmpi .ne v36 c0_i32_16
  let v38 : BitVec 1 := Scalar.andi v35 v37
  let v24 : BitVec 32 := Scalar.divsi v23 c512_i32_11
  let c1_i32_17 : BitVec 32 := 1#32
  let v39 : BitVec 32 := Scalar.subi v24 c1_i32_17
  let v40 : BitVec 32 := Scalar.select v38 v39 v24
  let v42 : BitVec 32 := Scalar.subi v40 c0_i32_18
  let c1_i32_19 : BitVec 32 := 1#32
  let v44 : BitVec 32 := Scalar.divsi v42 c1_i32_19
  let v45 : BitVec 32 := Scalar.muli v44 c1_i32_19
  let v46 : BitVec 32 := Scalar.addi c0_i32_18 v45
  let c1_i32_21 : BitVec 32 := 1#32
  let arg15 : BitVec 32 := Scf.iv v46 c1_i32_21 k0_t2
  let c512_i32_29 : BitVec 32 := 512#32
  let v58 : BitVec 32 := Scalar.muli arg15 c512_i32_29
  let v59 : Index := Scalar.indexCast v58
  let c0_31 : Index := 0#32
  ![1, v59.toNat, 0]

def k0_chk1 (i : grid0.Coords) (v19 : BitVec 32) : Prop :=
  (∀ (k0_h3 : k0_cond3 i = 1#1), (k0_t1_loop v19).OK) ∧
  (∀ k0_t1 : Fin (k0_t1_loop v19).trips, ∀ (k0_h3 : k0_cond3 i = 1#1), ∀ a, (k0_off4 v19 k0_t1) a + S1x512x2048.size a ≤ S3x2048x2048.size a) ∧
  (∀ (k0_h3 : k0_cond3 i = 1#1), (k0_t2_loop v19).OK) ∧
  (∀ k0_t2 : Fin (k0_t2_loop v19).trips, ∀ (k0_h3 : k0_cond3 i = 1#1), ∀ a, (k0_off5 v19 k0_t2) a + S1x512x2048.size a ≤ S3x2048x2048.size a)
theorem k0_t1_ok : ∀ (i : grid0.Coords) (v19 : BitVec 32) (k0_hw1 : k0_chk1 i v19), ∀ (k0_h3 : k0_cond3 i = 1#1), (k0_t1_loop v19).OK := fun i v19 k0_hw1 k0_h3 => k0_hw1.1 k0_h3
theorem k0_off4_inb : ∀ (i : grid0.Coords) (v19 : BitVec 32) (k0_hw1 : k0_chk1 i v19) (k0_t1 : Fin (k0_t1_loop v19).trips), ∀ (k0_h3 : k0_cond3 i = 1#1), ∀ a, (k0_off4 v19 k0_t1) a + S1x512x2048.size a ≤ S3x2048x2048.size a := fun i v19 k0_hw1 k0_t1 k0_h3 => k0_hw1.2.1 k0_t1 k0_h3
theorem k0_t2_ok : ∀ (i : grid0.Coords) (v19 : BitVec 32) (k0_hw1 : k0_chk1 i v19), ∀ (k0_h3 : k0_cond3 i = 1#1), (k0_t2_loop v19).OK := fun i v19 k0_hw1 k0_h3 => k0_hw1.2.2.1 k0_h3
theorem k0_off5_inb : ∀ (i : grid0.Coords) (v19 : BitVec 32) (k0_hw1 : k0_chk1 i v19) (k0_t2 : Fin (k0_t2_loop v19).trips), ∀ (k0_h3 : k0_cond3 i = 1#1), ∀ a, (k0_off5 v19 k0_t2) a + S1x512x2048.size a ≤ S3x2048x2048.size a := fun i v19 k0_hw1 k0_t2 k0_h3 => k0_hw1.2.2.2 k0_t2 k0_h3

def k0_cond4 (i : grid0.Coords) : BitVec 1 :=
  let arg0 : BitVec 32 := BitVec.ofNat 32 (i 0).val
  let c1_i32_4 : BitVec 32 := 1#32
  let v11 : BitVec 1 := Scalar.cmpi .sge arg0 c1_i32_4
  let c8_i32_5 : BitVec 32 := 8#32
  let v12 : BitVec 1 := Scalar.cmpi .slt arg0 c8_i32_5
  let v13 : BitVec 1 := Scalar.andi v11 v12
  let v14 : BitVec 32 := Scalar.extui v13
  let c0_i32_6 : BitVec 32 := 0#32
  let v15 : BitVec 1 := Scalar.cmpi .ne v14 c0_i32_6
  v15

def k0_off6 (i : grid0.Coords) : Fin 1 → Nat :=
  let arg0 : BitVec 32 := BitVec.ofNat 32 (i 0).val
  let c1_i32_9 : BitVec 32 := 1#32
  let v19 : BitVec 32 := Scalar.subi arg0 c1_i32_9
  let v20 : Index := Scalar.indexCast v19
  ![v20.toNat]
def k0_off7 (i : grid0.Coords) : Fin 3 → Nat :=
  let arg0 : BitVec 32 := BitVec.ofNat 32 (i 0).val
  let c1_i32_9 : BitVec 32 := 1#32
  let v19 : BitVec 32 := Scalar.subi arg0 c1_i32_9
  let c2_i32 : BitVec 32 := 2#32
  let c0_i32_10 : BitVec 32 := 0#32
  let v22 : BitVec 1 := Scalar.cmpi .eq c2_i32 c0_i32_10
  let c1_i32_11 : BitVec 32 := 1#32
  let v23 : BitVec 32 := Scalar.select v22 c1_i32_11 c2_i32
  let v24 : BitVec 32 := Scalar.remsi v19 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v32 : Index := Scalar.indexCast v31
  let c0 : Index := 0#32
  let c0_15 : Index := 0#32
  ![v32.toNat, 0, 0]
def k0_off8 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_37 : BitVec 32 := 3#32
  let c0_i32_38 : BitVec 32 := 0#32
  let v67 : BitVec 1 := Scalar.cmpi .eq c3_i32_37 c0_i32_38
  let c1_i32_39 : BitVec 32 := 1#32
  let v68 : BitVec 32 := Scalar.select v67 c1_i32_39 c3_i32_37
  let v69 : BitVec 32 := Scalar.remsi v19 v68
  let c0_i32_41 : BitVec 32 := 0#32
  let v71 : BitVec 1 := Scalar.cmpi .slt v69 c0_i32_41
  let c0_i32_42 : BitVec 32 := 0#32
  let v72 : BitVec 1 := Scalar.cmpi .slt v68 c0_i32_42
  let v73 : BitVec 1 := Scalar.xori v71 v72
  let c0_i32_40 : BitVec 32 := 0#32
  let v70 : BitVec 1 := Scalar.cmpi .ne v69 c0_i32_40
  let v74 : BitVec 1 := Scalar.andi v73 v70
  let v75 : BitVec 32 := Scalar.addi v69 v68
  let v76 : BitVec 32 := Scalar.select v74 v75 v69
  let v77 : Index := Scalar.indexCast v76
  let c0_43 : Index := 0#32
  let c0_44 : Index := 0#32
  ![v77.toNat, 0, 0]
def k0_off9 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_52 : BitVec 32 := 3#32
  let c0_i32_53 : BitVec 32 := 0#32
  let v98 : BitVec 1 := Scalar.cmpi .eq c3_i32_52 c0_i32_53
  let c1_i32_54 : BitVec 32 := 1#32
  let v99 : BitVec 32 := Scalar.select v98 c1_i32_54 c3_i32_52
  let v100 : BitVec 32 := Scalar.remsi v19 v99
  let c0_i32_56 : BitVec 32 := 0#32
  let v102 : BitVec 1 := Scalar.cmpi .slt v100 c0_i32_56
  let c0_i32_57 : BitVec 32 := 0#32
  let v103 : BitVec 1 := Scalar.cmpi .slt v99 c0_i32_57
  let v104 : BitVec 1 := Scalar.xori v102 v103
  let c0_i32_55 : BitVec 32 := 0#32
  let v101 : BitVec 1 := Scalar.cmpi .ne v100 c0_i32_55
  let v105 : BitVec 1 := Scalar.andi v104 v101
  let v106 : BitVec 32 := Scalar.addi v100 v99
  let v107 : BitVec 32 := Scalar.select v105 v106 v100
  let v108 : Index := Scalar.indexCast v107
  let c512 : Index := 512#32
  let c0_58 : Index := 0#32
  ![v108.toNat, 512, 0]
def k0_off10 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_66 : BitVec 32 := 3#32
  let c0_i32_67 : BitVec 32 := 0#32
  let v129 : BitVec 1 := Scalar.cmpi .eq c3_i32_66 c0_i32_67
  let c1_i32_68 : BitVec 32 := 1#32
  let v130 : BitVec 32 := Scalar.select v129 c1_i32_68 c3_i32_66
  let v131 : BitVec 32 := Scalar.remsi v19 v130
  let c0_i32_70 : BitVec 32 := 0#32
  let v133 : BitVec 1 := Scalar.cmpi .slt v131 c0_i32_70
  let c0_i32_71 : BitVec 32 := 0#32
  let v134 : BitVec 1 := Scalar.cmpi .slt v130 c0_i32_71
  let v135 : BitVec 1 := Scalar.xori v133 v134
  let c0_i32_69 : BitVec 32 := 0#32
  let v132 : BitVec 1 := Scalar.cmpi .ne v131 c0_i32_69
  let v136 : BitVec 1 := Scalar.andi v135 v132
  let v137 : BitVec 32 := Scalar.addi v131 v130
  let v138 : BitVec 32 := Scalar.select v136 v137 v131
  let v139 : Index := Scalar.indexCast v138
  let c1024 : Index := 1024#32
  let c0_72 : Index := 0#32
  ![v139.toNat, 1024, 0]
def k0_off11 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_79 : BitVec 32 := 3#32
  let c0_i32_80 : BitVec 32 := 0#32
  let v160 : BitVec 1 := Scalar.cmpi .eq c3_i32_79 c0_i32_80
  let c1_i32_81 : BitVec 32 := 1#32
  let v161 : BitVec 32 := Scalar.select v160 c1_i32_81 c3_i32_79
  let v162 : BitVec 32 := Scalar.remsi v19 v161
  let c0_i32_83 : BitVec 32 := 0#32
  let v164 : BitVec 1 := Scalar.cmpi .slt v162 c0_i32_83
  let c0_i32_84 : BitVec 32 := 0#32
  let v165 : BitVec 1 := Scalar.cmpi .slt v161 c0_i32_84
  let v166 : BitVec 1 := Scalar.xori v164 v165
  let c0_i32_82 : BitVec 32 := 0#32
  let v163 : BitVec 1 := Scalar.cmpi .ne v162 c0_i32_82
  let v167 : BitVec 1 := Scalar.andi v166 v163
  let v168 : BitVec 32 := Scalar.addi v162 v161
  let v169 : BitVec 32 := Scalar.select v167 v168 v162
  let v170 : Index := Scalar.indexCast v169
  let c1536 : Index := 1536#32
  let c0_85 : Index := 0#32
  ![v170.toNat, 1536, 0]
def k0_off12 (i : grid0.Coords) : Fin 1 → Nat :=
  let arg0 : BitVec 32 := BitVec.ofNat 32 (i 0).val
  let c3_i32_98 : BitVec 32 := 3#32
  let c0_i32_99 : BitVec 32 := 0#32
  let v201 : BitVec 1 := Scalar.cmpi .eq c3_i32_98 c0_i32_99
  let c1_i32_100 : BitVec 32 := 1#32
  let v202 : BitVec 32 := Scalar.select v201 c1_i32_100 c3_i32_98
  let v203 : BitVec 32 := Scalar.remsi arg0 v202
  let c0_i32_102 : BitVec 32 := 0#32
  let v205 : BitVec 1 := Scalar.cmpi .slt v203 c0_i32_102
  let c0_i32_103 : BitVec 32 := 0#32
  let v206 : BitVec 1 := Scalar.cmpi .slt v202 c0_i32_103
  let v207 : BitVec 1 := Scalar.xori v205 v206
  let c0_i32_101 : BitVec 32 := 0#32
  let v204 : BitVec 1 := Scalar.cmpi .ne v203 c0_i32_101
  let v208 : BitVec 1 := Scalar.andi v207 v204
  let v209 : BitVec 32 := Scalar.addi v203 v202
  let v210 : BitVec 32 := Scalar.select v208 v209 v203
  ![v210.toNat]
def k0_off13 (i : grid0.Coords) : Fin 3 → Nat :=
  let arg0 : BitVec 32 := BitVec.ofNat 32 (i 0).val
  let c3_i32_92 : BitVec 32 := 3#32
  let c0_i32_93 : BitVec 32 := 0#32
  let v191 : BitVec 1 := Scalar.cmpi .eq c3_i32_92 c0_i32_93
  let c1_i32_94 : BitVec 32 := 1#32
  let v192 : BitVec 32 := Scalar.select v191 c1_i32_94 c3_i32_92
  let v193 : BitVec 32 := Scalar.remsi arg0 v192
  let c0_i32_96 : BitVec 32 := 0#32
  let v195 : BitVec 1 := Scalar.cmpi .slt v193 c0_i32_96
  let c0_i32_97 : BitVec 32 := 0#32
  let v196 : BitVec 1 := Scalar.cmpi .slt v192 c0_i32_97
  let v197 : BitVec 1 := Scalar.xori v195 v196
  let c0_i32_95 : BitVec 32 := 0#32
  let v194 : BitVec 1 := Scalar.cmpi .ne v193 c0_i32_95
  let v198 : BitVec 1 := Scalar.andi v197 v194
  let v199 : BitVec 32 := Scalar.addi v193 v192
  let v200 : BitVec 32 := Scalar.select v198 v199 v193
  let c0_i32_104 : BitVec 32 := 0#32
  let c0_i32_105 : BitVec 32 := 0#32
  ![v200.toNat, 0, 0]
def k0_off14 (i : grid0.Coords) : Fin 3 → Nat :=
  let arg0 : BitVec 32 := BitVec.ofNat 32 (i 0).val
  let c0_i32_106 : BitVec 32 := 0#32
  let c0_i32_107 : BitVec 32 := 0#32
  ![arg0.toNat, 0, 0]
def k0_off15 (i : grid0.Coords) : Fin 3 → Nat :=
  let arg0 : BitVec 32 := BitVec.ofNat 32 (i 0).val
  let c3_i32_108 : BitVec 32 := 3#32
  let c0_i32_109 : BitVec 32 := 0#32
  let v217 : BitVec 1 := Scalar.cmpi .eq c3_i32_108 c0_i32_109
  let c1_i32_110 : BitVec 32 := 1#32
  let v218 : BitVec 32 := Scalar.select v217 c1_i32_110 c3_i32_108
  let v219 : BitVec 32 := Scalar.remsi arg0 v218
  let c0_i32_112 : BitVec 32 := 0#32
  let v221 : BitVec 1 := Scalar.cmpi .slt v219 c0_i32_112
  let c0_i32_113 : BitVec 32 := 0#32
  let v222 : BitVec 1 := Scalar.cmpi .slt v218 c0_i32_113
  let v223 : BitVec 1 := Scalar.xori v221 v222
  let c0_i32_111 : BitVec 32 := 0#32
  let v220 : BitVec 1 := Scalar.cmpi .ne v219 c0_i32_111
  let v224 : BitVec 1 := Scalar.andi v223 v220
  let v225 : BitVec 32 := Scalar.addi v219 v218
  let v226 : BitVec 32 := Scalar.select v224 v225 v219
  let v227 : Index := Scalar.indexCast v226
  let c0_114 : Index := 0#32
  let c0_115 : Index := 0#32
  ![v227.toNat, 0, 0]
def k0_off16 (i : grid0.Coords) : Fin 3 → Nat :=
  let arg0 : BitVec 32 := BitVec.ofNat 32 (i 0).val
  let c2_i32_123 : BitVec 32 := 2#32
  let c0_i32_124 : BitVec 32 := 0#32
  let v239 : BitVec 1 := Scalar.cmpi .eq c2_i32_123 c0_i32_124
  let c1_i32_125 : BitVec 32 := 1#32
  let v240 : BitVec 32 := Scalar.select v239 c1_i32_125 c2_i32_123
  let v241 : BitVec 32 := Scalar.remsi arg0 v240
  let c0_i32_127 : BitVec 32 := 0#32
  let v243 : BitVec 1 := Scalar.cmpi .slt v241 c0_i32_127
  let c0_i32_128 : BitVec 32 := 0#32
  let v244 : BitVec 1 := Scalar.cmpi .slt v240 c0_i32_128
  let v245 : BitVec 1 := Scalar.xori v243 v244
  let c0_i32_126 : BitVec 32 := 0#32
  let v242 : BitVec 1 := Scalar.cmpi .ne v241 c0_i32_126
  let v246 : BitVec 1 := Scalar.andi v245 v242
  let v247 : BitVec 32 := Scalar.addi v241 v240
  let v248 : BitVec 32 := Scalar.select v246 v247 v241
  let v249 : Index := Scalar.indexCast v248
  let c0_129 : Index := 0#32
  let c0_130 : Index := 0#32
  ![v249.toNat, 0, 0]
def k0_off17 (i : grid0.Coords) : Fin 2 → Nat :=
  let arg0 : BitVec 32 := BitVec.ofNat 32 (i 0).val
  let c1_i32_9 : BitVec 32 := 1#32
  let v19 : BitVec 32 := Scalar.subi arg0 c1_i32_9
  let v261 : Index := Scalar.indexCast v19
  let c0_136 : Index := 0#32
  ![v261.toNat, 0]
def k0_off18 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_37 : BitVec 32 := 3#32
  let c0_i32_38 : BitVec 32 := 0#32
  let v67 : BitVec 1 := Scalar.cmpi .eq c3_i32_37 c0_i32_38
  let c1_i32_39 : BitVec 32 := 1#32
  let v68 : BitVec 32 := Scalar.select v67 c1_i32_39 c3_i32_37
  let v69 : BitVec 32 := Scalar.remsi v19 v68
  let c0_i32_41 : BitVec 32 := 0#32
  let v71 : BitVec 1 := Scalar.cmpi .slt v69 c0_i32_41
  let c0_i32_42 : BitVec 32 := 0#32
  let v72 : BitVec 1 := Scalar.cmpi .slt v68 c0_i32_42
  let v73 : BitVec 1 := Scalar.xori v71 v72
  let c0_i32_40 : BitVec 32 := 0#32
  let v70 : BitVec 1 := Scalar.cmpi .ne v69 c0_i32_40
  let v74 : BitVec 1 := Scalar.andi v73 v70
  let v75 : BitVec 32 := Scalar.addi v69 v68
  let v76 : BitVec 32 := Scalar.select v74 v75 v69
  let v77 : Index := Scalar.indexCast v76
  let c0_43 : Index := 0#32
  let c0_44 : Index := 0#32
  ![v77.toNat, 0, 0]
def k0_off19 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_52 : BitVec 32 := 3#32
  let c0_i32_53 : BitVec 32 := 0#32
  let v98 : BitVec 1 := Scalar.cmpi .eq c3_i32_52 c0_i32_53
  let c1_i32_54 : BitVec 32 := 1#32
  let v99 : BitVec 32 := Scalar.select v98 c1_i32_54 c3_i32_52
  let v100 : BitVec 32 := Scalar.remsi v19 v99
  let c0_i32_56 : BitVec 32 := 0#32
  let v102 : BitVec 1 := Scalar.cmpi .slt v100 c0_i32_56
  let c0_i32_57 : BitVec 32 := 0#32
  let v103 : BitVec 1 := Scalar.cmpi .slt v99 c0_i32_57
  let v104 : BitVec 1 := Scalar.xori v102 v103
  let c0_i32_55 : BitVec 32 := 0#32
  let v101 : BitVec 1 := Scalar.cmpi .ne v100 c0_i32_55
  let v105 : BitVec 1 := Scalar.andi v104 v101
  let v106 : BitVec 32 := Scalar.addi v100 v99
  let v107 : BitVec 32 := Scalar.select v105 v106 v100
  let v108 : Index := Scalar.indexCast v107
  let c512 : Index := 512#32
  let c0_58 : Index := 0#32
  ![v108.toNat, 512, 0]
def k0_off20 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_66 : BitVec 32 := 3#32
  let c0_i32_67 : BitVec 32 := 0#32
  let v129 : BitVec 1 := Scalar.cmpi .eq c3_i32_66 c0_i32_67
  let c1_i32_68 : BitVec 32 := 1#32
  let v130 : BitVec 32 := Scalar.select v129 c1_i32_68 c3_i32_66
  let v131 : BitVec 32 := Scalar.remsi v19 v130
  let c0_i32_70 : BitVec 32 := 0#32
  let v133 : BitVec 1 := Scalar.cmpi .slt v131 c0_i32_70
  let c0_i32_71 : BitVec 32 := 0#32
  let v134 : BitVec 1 := Scalar.cmpi .slt v130 c0_i32_71
  let v135 : BitVec 1 := Scalar.xori v133 v134
  let c0_i32_69 : BitVec 32 := 0#32
  let v132 : BitVec 1 := Scalar.cmpi .ne v131 c0_i32_69
  let v136 : BitVec 1 := Scalar.andi v135 v132
  let v137 : BitVec 32 := Scalar.addi v131 v130
  let v138 : BitVec 32 := Scalar.select v136 v137 v131
  let v139 : Index := Scalar.indexCast v138
  let c1024 : Index := 1024#32
  let c0_72 : Index := 0#32
  ![v139.toNat, 1024, 0]
def k0_off21 (i : grid0.Coords) : Fin 1 → Nat :=
  let arg0 : BitVec 32 := BitVec.ofNat 32 (i 0).val
  let c3_i32_85 : BitVec 32 := 3#32
  let c0_i32_86 : BitVec 32 := 0#32
  let v170 : BitVec 1 := Scalar.cmpi .eq c3_i32_85 c0_i32_86
  let c1_i32_87 : BitVec 32 := 1#32
  let v171 : BitVec 32 := Scalar.select v170 c1_i32_87 c3_i32_85
  let v172 : BitVec 32 := Scalar.remsi arg0 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  ![v179.toNat]
def k0_off22 (i : grid0.Coords) : Fin 3 → Nat :=
  let arg0 : BitVec 32 := BitVec.ofNat 32 (i 0).val
  let c3_i32_79 : BitVec 32 := 3#32
  let c0_i32_80 : BitVec 32 := 0#32
  let v160 : BitVec 1 := Scalar.cmpi .eq c3_i32_79 c0_i32_80
  let c1_i32_81 : BitVec 32 := 1#32
  let v161 : BitVec 32 := Scalar.select v160 c1_i32_81 c3_i32_79
  let v162 : BitVec 32 := Scalar.remsi arg0 v161
  let c0_i32_83 : BitVec 32 := 0#32
  let v164 : BitVec 1 := Scalar.cmpi .slt v162 c0_i32_83
  let c0_i32_84 : BitVec 32 := 0#32
  let v165 : BitVec 1 := Scalar.cmpi .slt v161 c0_i32_84
  let v166 : BitVec 1 := Scalar.xori v164 v165
  let c0_i32_82 : BitVec 32 := 0#32
  let v163 : BitVec 1 := Scalar.cmpi .ne v162 c0_i32_82
  let v167 : BitVec 1 := Scalar.andi v166 v163
  let v168 : BitVec 32 := Scalar.addi v162 v161
  let v169 : BitVec 32 := Scalar.select v167 v168 v162
  let c0_i32_91 : BitVec 32 := 0#32
  let c0_i32_92 : BitVec 32 := 0#32
  ![v169.toNat, 0, 0]
def k0_off23 (i : grid0.Coords) : Fin 3 → Nat :=
  let arg0 : BitVec 32 := BitVec.ofNat 32 (i 0).val
  let c0_i32_93 : BitVec 32 := 0#32
  let c0_i32_94 : BitVec 32 := 0#32
  ![arg0.toNat, 0, 0]
def k0_off24 (i : grid0.Coords) : Fin 3 → Nat :=
  let arg0 : BitVec 32 := BitVec.ofNat 32 (i 0).val
  let c3_i32_95 : BitVec 32 := 3#32
  let c0_i32_96 : BitVec 32 := 0#32
  let v186 : BitVec 1 := Scalar.cmpi .eq c3_i32_95 c0_i32_96
  let c1_i32_97 : BitVec 32 := 1#32
  let v187 : BitVec 32 := Scalar.select v186 c1_i32_97 c3_i32_95
  let v188 : BitVec 32 := Scalar.remsi arg0 v187
  let c0_i32_99 : BitVec 32 := 0#32
  let v190 : BitVec 1 := Scalar.cmpi .slt v188 c0_i32_99
  let c0_i32_100 : BitVec 32 := 0#32
  let v191 : BitVec 1 := Scalar.cmpi .slt v187 c0_i32_100
  let v192 : BitVec 1 := Scalar.xori v190 v191
  let c0_i32_98 : BitVec 32 := 0#32
  let v189 : BitVec 1 := Scalar.cmpi .ne v188 c0_i32_98
  let v193 : BitVec 1 := Scalar.andi v192 v189
  let v194 : BitVec 32 := Scalar.addi v188 v187
  let v195 : BitVec 32 := Scalar.select v193 v194 v188
  let v196 : Index := Scalar.indexCast v195
  let c0_101 : Index := 0#32
  let c0_102 : Index := 0#32
  ![v196.toNat, 0, 0]
def k0_off25 (i : grid0.Coords) : Fin 3 → Nat :=
  let arg0 : BitVec 32 := BitVec.ofNat 32 (i 0).val
  let c2_i32_110 : BitVec 32 := 2#32
  let c0_i32_111 : BitVec 32 := 0#32
  let v208 : BitVec 1 := Scalar.cmpi .eq c2_i32_110 c0_i32_111
  let c1_i32_112 : BitVec 32 := 1#32
  let v209 : BitVec 32 := Scalar.select v208 c1_i32_112 c2_i32_110
  let v210 : BitVec 32 := Scalar.remsi arg0 v209
  let c0_i32_114 : BitVec 32 := 0#32
  let v212 : BitVec 1 := Scalar.cmpi .slt v210 c0_i32_114
  let c0_i32_115 : BitVec 32 := 0#32
  let v213 : BitVec 1 := Scalar.cmpi .slt v209 c0_i32_115
  let v214 : BitVec 1 := Scalar.xori v212 v213
  let c0_i32_113 : BitVec 32 := 0#32
  let v211 : BitVec 1 := Scalar.cmpi .ne v210 c0_i32_113
  let v215 : BitVec 1 := Scalar.andi v214 v211
  let v216 : BitVec 32 := Scalar.addi v210 v209
  let v217 : BitVec 32 := Scalar.select v215 v216 v210
  let v218 : Index := Scalar.indexCast v217
  let c0_116 : Index := 0#32
  let c0_117 : Index := 0#32
  ![v218.toNat, 0, 0]
def k0_off26 (i : grid0.Coords) : Fin 2 → Nat :=
  let arg0 : BitVec 32 := BitVec.ofNat 32 (i 0).val
  let c1_i32_9 : BitVec 32 := 1#32
  let v19 : BitVec 32 := Scalar.subi arg0 c1_i32_9
  let v230 : Index := Scalar.indexCast v19
  let c0_123 : Index := 0#32
  ![v230.toNat, 0]
def k0_off27 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_35 : BitVec 32 := 3#32
  let c0_i32_36 : BitVec 32 := 0#32
  let v65 : BitVec 1 := Scalar.cmpi .eq c3_i32_35 c0_i32_36
  let c1_i32_37 : BitVec 32 := 1#32
  let v66 : BitVec 32 := Scalar.select v65 c1_i32_37 c3_i32_35
  let v67 : BitVec 32 := Scalar.remsi v19 v66
  let c0_i32_39 : BitVec 32 := 0#32
  let v69 : BitVec 1 := Scalar.cmpi .slt v67 c0_i32_39
  let c0_i32_40 : BitVec 32 := 0#32
  let v70 : BitVec 1 := Scalar.cmpi .slt v66 c0_i32_40
  let v71 : BitVec 1 := Scalar.xori v69 v70
  let c0_i32_38 : BitVec 32 := 0#32
  let v68 : BitVec 1 := Scalar.cmpi .ne v67 c0_i32_38
  let v72 : BitVec 1 := Scalar.andi v71 v68
  let v73 : BitVec 32 := Scalar.addi v67 v66
  let v74 : BitVec 32 := Scalar.select v72 v73 v67
  let v75 : Index := Scalar.indexCast v74
  let c0_41 : Index := 0#32
  let c0_42 : Index := 0#32
  ![v75.toNat, 0, 0]
def k0_off28 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_50 : BitVec 32 := 3#32
  let c0_i32_51 : BitVec 32 := 0#32
  let v96 : BitVec 1 := Scalar.cmpi .eq c3_i32_50 c0_i32_51
  let c1_i32_52 : BitVec 32 := 1#32
  let v97 : BitVec 32 := Scalar.select v96 c1_i32_52 c3_i32_50
  let v98 : BitVec 32 := Scalar.remsi v19 v97
  let c0_i32_54 : BitVec 32 := 0#32
  let v100 : BitVec 1 := Scalar.cmpi .slt v98 c0_i32_54
  let c0_i32_55 : BitVec 32 := 0#32
  let v101 : BitVec 1 := Scalar.cmpi .slt v97 c0_i32_55
  let v102 : BitVec 1 := Scalar.xori v100 v101
  let c0_i32_53 : BitVec 32 := 0#32
  let v99 : BitVec 1 := Scalar.cmpi .ne v98 c0_i32_53
  let v103 : BitVec 1 := Scalar.andi v102 v99
  let v104 : BitVec 32 := Scalar.addi v98 v97
  let v105 : BitVec 32 := Scalar.select v103 v104 v98
  let v106 : Index := Scalar.indexCast v105
  let c512 : Index := 512#32
  let c0_56 : Index := 0#32
  ![v106.toNat, 512, 0]
def k0_off29 (i : grid0.Coords) : Fin 1 → Nat :=
  let arg0 : BitVec 32 := BitVec.ofNat 32 (i 0).val
  let c3_i32_70 : BitVec 32 := 3#32
  let c0_i32_71 : BitVec 32 := 0#32
  let v137 : BitVec 1 := Scalar.cmpi .eq c3_i32_70 c0_i32_71
  let c1_i32_72 : BitVec 32 := 1#32
  let v138 : BitVec 32 := Scalar.select v137 c1_i32_72 c3_i32_70
  let v139 : BitVec 32 := Scalar.remsi arg0 v138
  let c0_i32_74 : BitVec 32 := 0#32
  let v141 : BitVec 1 := Scalar.cmpi .slt v139 c0_i32_74
  let c0_i32_75 : BitVec 32 := 0#32
  let v142 : BitVec 1 := Scalar.cmpi .slt v138 c0_i32_75
  let v143 : BitVec 1 := Scalar.xori v141 v142
  let c0_i32_73 : BitVec 32 := 0#32
  let v140 : BitVec 1 := Scalar.cmpi .ne v139 c0_i32_73
  let v144 : BitVec 1 := Scalar.andi v143 v140
  let v145 : BitVec 32 := Scalar.addi v139 v138
  let v146 : BitVec 32 := Scalar.select v144 v145 v139
  ![v146.toNat]
def k0_off30 (i : grid0.Coords) : Fin 3 → Nat :=
  let arg0 : BitVec 32 := BitVec.ofNat 32 (i 0).val
  let c3_i32_64 : BitVec 32 := 3#32
  let c0_i32_65 : BitVec 32 := 0#32
  let v127 : BitVec 1 := Scalar.cmpi .eq c3_i32_64 c0_i32_65
  let c1_i32_66 : BitVec 32 := 1#32
  let v128 : BitVec 32 := Scalar.select v127 c1_i32_66 c3_i32_64
  let v129 : BitVec 32 := Scalar.remsi arg0 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c0_i32_76 : BitVec 32 := 0#32
  let c0_i32_77 : BitVec 32 := 0#32
  ![v136.toNat, 0, 0]
def k0_off31 (i : grid0.Coords) : Fin 3 → Nat :=
  let arg0 : BitVec 32 := BitVec.ofNat 32 (i 0).val
  let c0_i32_78 : BitVec 32 := 0#32
  let c0_i32_79 : BitVec 32 := 0#32
  ![arg0.toNat, 0, 0]
def k0_off32 (i : grid0.Coords) : Fin 3 → Nat :=
  let arg0 : BitVec 32 := BitVec.ofNat 32 (i 0).val
  let c3_i32_80 : BitVec 32 := 3#32
  let c0_i32_81 : BitVec 32 := 0#32
  let v153 : BitVec 1 := Scalar.cmpi .eq c3_i32_80 c0_i32_81
  let c1_i32_82 : BitVec 32 := 1#32
  let v154 : BitVec 32 := Scalar.select v153 c1_i32_82 c3_i32_80
  let v155 : BitVec 32 := Scalar.remsi arg0 v154
  let c0_i32_84 : BitVec 32 := 0#32
  let v157 : BitVec 1 := Scalar.cmpi .slt v155 c0_i32_84
  let c0_i32_85 : BitVec 32 := 0#32
  let v158 : BitVec 1 := Scalar.cmpi .slt v154 c0_i32_85
  let v159 : BitVec 1 := Scalar.xori v157 v158
  let c0_i32_83 : BitVec 32 := 0#32
  let v156 : BitVec 1 := Scalar.cmpi .ne v155 c0_i32_83
  let v160 : BitVec 1 := Scalar.andi v159 v156
  let v161 : BitVec 32 := Scalar.addi v155 v154
  let v162 : BitVec 32 := Scalar.select v160 v161 v155
  let v163 : Index := Scalar.indexCast v162
  let c0_86 : Index := 0#32
  let c0_87 : Index := 0#32
  ![v163.toNat, 0, 0]
def k0_off33 (i : grid0.Coords) : Fin 3 → Nat :=
  let arg0 : BitVec 32 := BitVec.ofNat 32 (i 0).val
  let c2_i32_95 : BitVec 32 := 2#32
  let c0_i32_96 : BitVec 32 := 0#32
  let v175 : BitVec 1 := Scalar.cmpi .eq c2_i32_95 c0_i32_96
  let c1_i32_97 : BitVec 32 := 1#32
  let v176 : BitVec 32 := Scalar.select v175 c1_i32_97 c2_i32_95
  let v177 : BitVec 32 := Scalar.remsi arg0 v176
  let c0_i32_99 : BitVec 32 := 0#32
  let v179 : BitVec 1 := Scalar.cmpi .slt v177 c0_i32_99
  let c0_i32_100 : BitVec 32 := 0#32
  let v180 : BitVec 1 := Scalar.cmpi .slt v176 c0_i32_100
  let v181 : BitVec 1 := Scalar.xori v179 v180
  let c0_i32_98 : BitVec 32 := 0#32
  let v178 : BitVec 1 := Scalar.cmpi .ne v177 c0_i32_98
  let v182 : BitVec 1 := Scalar.andi v181 v178
  let v183 : BitVec 32 := Scalar.addi v177 v176
  let v184 : BitVec 32 := Scalar.select v182 v183 v177
  let v185 : Index := Scalar.indexCast v184
  let c0_101 : Index := 0#32
  let c0_102 : Index := 0#32
  ![v185.toNat, 0, 0]
def k0_off34 (i : grid0.Coords) : Fin 2 → Nat :=
  let arg0 : BitVec 32 := BitVec.ofNat 32 (i 0).val
  let c1_i32_9 : BitVec 32 := 1#32
  let v19 : BitVec 32 := Scalar.subi arg0 c1_i32_9
  let v197 : Index := Scalar.indexCast v19
  let c0_108 : Index := 0#32
  ![v197.toNat, 0]
def k0_off35 (i : grid0.Coords) : Fin 3 → Nat :=
  let arg0 : BitVec 32 := BitVec.ofNat 32 (i 0).val
  let c1_i32_9 : BitVec 32 := 1#32
  let v19 : BitVec 32 := Scalar.subi arg0 c1_i32_9
  let c3_i32_33 : BitVec 32 := 3#32
  let c0_i32_34 : BitVec 32 := 0#32
  let v63 : BitVec 1 := Scalar.cmpi .eq c3_i32_33 c0_i32_34
  let c1_i32_35 : BitVec 32 := 1#32
  let v64 : BitVec 32 := Scalar.select v63 c1_i32_35 c3_i32_33
  let v65 : BitVec 32 := Scalar.remsi v19 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  let v73 : Index := Scalar.indexCast v72
  let c0_39 : Index := 0#32
  let c0_40 : Index := 0#32
  ![v73.toNat, 0, 0]
def k0_off36 (i : grid0.Coords) : Fin 1 → Nat :=
  let arg0 : BitVec 32 := BitVec.ofNat 32 (i 0).val
  let c3_i32_54 : BitVec 32 := 3#32
  let c0_i32_55 : BitVec 32 := 0#32
  let v104 : BitVec 1 := Scalar.cmpi .eq c3_i32_54 c0_i32_55
  let c1_i32_56 : BitVec 32 := 1#32
  let v105 : BitVec 32 := Scalar.select v104 c1_i32_56 c3_i32_54
  let v106 : BitVec 32 := Scalar.remsi arg0 v105
  let c0_i32_58 : BitVec 32 := 0#32
  let v108 : BitVec 1 := Scalar.cmpi .slt v106 c0_i32_58
  let c0_i32_59 : BitVec 32 := 0#32
  let v109 : BitVec 1 := Scalar.cmpi .slt v105 c0_i32_59
  let v110 : BitVec 1 := Scalar.xori v108 v109
  let c0_i32_57 : BitVec 32 := 0#32
  let v107 : BitVec 1 := Scalar.cmpi .ne v106 c0_i32_57
  let v111 : BitVec 1 := Scalar.andi v110 v107
  let v112 : BitVec 32 := Scalar.addi v106 v105
  let v113 : BitVec 32 := Scalar.select v111 v112 v106
  ![v113.toNat]
def k0_off37 (i : grid0.Coords) : Fin 3 → Nat :=
  let arg0 : BitVec 32 := BitVec.ofNat 32 (i 0).val
  let c3_i32_48 : BitVec 32 := 3#32
  let c0_i32_49 : BitVec 32 := 0#32
  let v94 : BitVec 1 := Scalar.cmpi .eq c3_i32_48 c0_i32_49
  let c1_i32_50 : BitVec 32 := 1#32
  let v95 : BitVec 32 := Scalar.select v94 c1_i32_50 c3_i32_48
  let v96 : BitVec 32 := Scalar.remsi arg0 v95
  let c0_i32_52 : BitVec 32 := 0#32
  let v98 : BitVec 1 := Scalar.cmpi .slt v96 c0_i32_52
  let c0_i32_53 : BitVec 32 := 0#32
  let v99 : BitVec 1 := Scalar.cmpi .slt v95 c0_i32_53
  let v100 : BitVec 1 := Scalar.xori v98 v99
  let c0_i32_51 : BitVec 32 := 0#32
  let v97 : BitVec 1 := Scalar.cmpi .ne v96 c0_i32_51
  let v101 : BitVec 1 := Scalar.andi v100 v97
  let v102 : BitVec 32 := Scalar.addi v96 v95
  let v103 : BitVec 32 := Scalar.select v101 v102 v96
  let c0_i32_60 : BitVec 32 := 0#32
  let c0_i32_61 : BitVec 32 := 0#32
  ![v103.toNat, 0, 0]
def k0_off38 (i : grid0.Coords) : Fin 3 → Nat :=
  let arg0 : BitVec 32 := BitVec.ofNat 32 (i 0).val
  let c0_i32_62 : BitVec 32 := 0#32
  let c0_i32_63 : BitVec 32 := 0#32
  ![arg0.toNat, 0, 0]
def k0_off39 (i : grid0.Coords) : Fin 3 → Nat :=
  let arg0 : BitVec 32 := BitVec.ofNat 32 (i 0).val
  let c3_i32_64 : BitVec 32 := 3#32
  let c0_i32_65 : BitVec 32 := 0#32
  let v120 : BitVec 1 := Scalar.cmpi .eq c3_i32_64 c0_i32_65
  let c1_i32_66 : BitVec 32 := 1#32
  let v121 : BitVec 32 := Scalar.select v120 c1_i32_66 c3_i32_64
  let v122 : BitVec 32 := Scalar.remsi arg0 v121
  let c0_i32_68 : BitVec 32 := 0#32
  let v124 : BitVec 1 := Scalar.cmpi .slt v122 c0_i32_68
  let c0_i32_69 : BitVec 32 := 0#32
  let v125 : BitVec 1 := Scalar.cmpi .slt v121 c0_i32_69
  let v126 : BitVec 1 := Scalar.xori v124 v125
  let c0_i32_67 : BitVec 32 := 0#32
  let v123 : BitVec 1 := Scalar.cmpi .ne v122 c0_i32_67
  let v127 : BitVec 1 := Scalar.andi v126 v123
  let v128 : BitVec 32 := Scalar.addi v122 v121
  let v129 : BitVec 32 := Scalar.select v127 v128 v122
  let v130 : Index := Scalar.indexCast v129
  let c0_70 : Index := 0#32
  let c0_71 : Index := 0#32
  ![v130.toNat, 0, 0]
def k0_off40 (i : grid0.Coords) : Fin 3 → Nat :=
  let arg0 : BitVec 32 := BitVec.ofNat 32 (i 0).val
  let c2_i32_79 : BitVec 32 := 2#32
  let c0_i32_80 : BitVec 32 := 0#32
  let v142 : BitVec 1 := Scalar.cmpi .eq c2_i32_79 c0_i32_80
  let c1_i32_81 : BitVec 32 := 1#32
  let v143 : BitVec 32 := Scalar.select v142 c1_i32_81 c2_i32_79
  let v144 : BitVec 32 := Scalar.remsi arg0 v143
  let c0_i32_83 : BitVec 32 := 0#32
  let v146 : BitVec 1 := Scalar.cmpi .slt v144 c0_i32_83
  let c0_i32_84 : BitVec 32 := 0#32
  let v147 : BitVec 1 := Scalar.cmpi .slt v143 c0_i32_84
  let v148 : BitVec 1 := Scalar.xori v146 v147
  let c0_i32_82 : BitVec 32 := 0#32
  let v145 : BitVec 1 := Scalar.cmpi .ne v144 c0_i32_82
  let v149 : BitVec 1 := Scalar.andi v148 v145
  let v150 : BitVec 32 := Scalar.addi v144 v143
  let v151 : BitVec 32 := Scalar.select v149 v150 v144
  let v152 : Index := Scalar.indexCast v151
  let c0_85 : Index := 0#32
  let c0_86 : Index := 0#32
  ![v152.toNat, 0, 0]
def k0_off41 (i : grid0.Coords) : Fin 2 → Nat :=
  let arg0 : BitVec 32 := BitVec.ofNat 32 (i 0).val
  let c1_i32_9 : BitVec 32 := 1#32
  let v19 : BitVec 32 := Scalar.subi arg0 c1_i32_9
  let v164 : Index := Scalar.indexCast v19
  let c0_92 : Index := 0#32
  ![v164.toNat, 0]
def k0_cond5 (v21 : BitVec 32) : BitVec 1 :=
  let c512_i32 : BitVec 32 := 512#32
  let v39 : BitVec 32 := Scalar.addi v21 c512_i32
  let c1_i32_21 : BitVec 32 := 1#32
  let v40 : BitVec 32 := Scalar.subi v39 c1_i32_21
  let c0_i32_23 : BitVec 32 := 0#32
  let v42 : BitVec 1 := Scalar.cmpi .sgt v40 c0_i32_23
  let v43 : BitVec 32 := Scalar.extui v42
  let c0_i32_24 : BitVec 32 := 0#32
  let v44 : BitVec 1 := Scalar.cmpi .slt v40 c0_i32_24
  let v45 : BitVec 32 := Scalar.extui v44
  let v46 : BitVec 32 := Scalar.subi v43 v45
  let c512_i32_22 : BitVec 32 := 512#32
  let c0_i32_25 : BitVec 32 := 0#32
  let v47 : BitVec 1 := Scalar.cmpi .sgt c512_i32_22 c0_i32_25
  let v48 : BitVec 32 := Scalar.extui v47
  let c0_i32_26 : BitVec 32 := 0#32
  let v49 : BitVec 1 := Scalar.cmpi .slt c512_i32_22 c0_i32_26
  let v50 : BitVec 32 := Scalar.extui v49
  let v51 : BitVec 32 := Scalar.subi v48 v50
  let v52 : BitVec 1 := Scalar.cmpi .ne v46 v51
  let v53 : BitVec 32 := Scalar.remsi v40 c512_i32_22
  let c0_i32_27 : BitVec 32 := 0#32
  let v54 : BitVec 1 := Scalar.cmpi .ne v53 c0_i32_27
  let v55 : BitVec 1 := Scalar.andi v52 v54
  let v41 : BitVec 32 := Scalar.divsi v40 c512_i32_22
  let c1_i32_28 : BitVec 32 := 1#32
  let v56 : BitVec 32 := Scalar.subi v41 c1_i32_28
  let v57 : BitVec 32 := Scalar.select v55 v56 v41
  let c1_i32_29 : BitVec 32 := 1#32
  let v58 : BitVec 32 := Scalar.subi v57 c1_i32_29
  let c0_i32_30 : BitVec 32 := 0#32
  let v59 : BitVec 32 := Scalar.maxsi v58 c0_i32_30
  let c3_i32 : BitVec 32 := 3#32
  let v60 : BitVec 32 := Scalar.minsi v59 c3_i32
  let c0_i32_31 : BitVec 32 := 0#32
  let v61 : BitVec 1 := Scalar.cmpi .ne v60 c0_i32_31
  v61

def k0_cond6 (v21 : BitVec 32) : BitVec 1 :=
  let c512_i32 : BitVec 32 := 512#32
  let v39 : BitVec 32 := Scalar.addi v21 c512_i32
  let c1_i32_21 : BitVec 32 := 1#32
  let v40 : BitVec 32 := Scalar.subi v39 c1_i32_21
  let c0_i32_23 : BitVec 32 := 0#32
  let v42 : BitVec 1 := Scalar.cmpi .sgt v40 c0_i32_23
  let v43 : BitVec 32 := Scalar.extui v42
  let c0_i32_24 : BitVec 32 := 0#32
  let v44 : BitVec 1 := Scalar.cmpi .slt v40 c0_i32_24
  let v45 : BitVec 32 := Scalar.extui v44
  let v46 : BitVec 32 := Scalar.subi v43 v45
  let c512_i32_22 : BitVec 32 := 512#32
  let c0_i32_25 : BitVec 32 := 0#32
  let v47 : BitVec 1 := Scalar.cmpi .sgt c512_i32_22 c0_i32_25
  let v48 : BitVec 32 := Scalar.extui v47
  let c0_i32_26 : BitVec 32 := 0#32
  let v49 : BitVec 1 := Scalar.cmpi .slt c512_i32_22 c0_i32_26
  let v50 : BitVec 32 := Scalar.extui v49
  let v51 : BitVec 32 := Scalar.subi v48 v50
  let v52 : BitVec 1 := Scalar.cmpi .ne v46 v51
  let v53 : BitVec 32 := Scalar.remsi v40 c512_i32_22
  let c0_i32_27 : BitVec 32 := 0#32
  let v54 : BitVec 1 := Scalar.cmpi .ne v53 c0_i32_27
  let v55 : BitVec 1 := Scalar.andi v52 v54
  let v41 : BitVec 32 := Scalar.divsi v40 c512_i32_22
  let c1_i32_28 : BitVec 32 := 1#32
  let v56 : BitVec 32 := Scalar.subi v41 c1_i32_28
  let v57 : BitVec 32 := Scalar.select v55 v56 v41
  let c1_i32_29 : BitVec 32 := 1#32
  let v58 : BitVec 32 := Scalar.subi v57 c1_i32_29
  let c0_i32_30 : BitVec 32 := 0#32
  let v59 : BitVec 32 := Scalar.maxsi v58 c0_i32_30
  let c3_i32 : BitVec 32 := 3#32
  let v60 : BitVec 32 := Scalar.minsi v59 c3_i32
  let c1_i32_32 : BitVec 32 := 1#32
  let v62 : BitVec 32 := Scalar.subi v60 c1_i32_32
  let c0_i32_33 : BitVec 32 := 0#32
  let v63 : BitVec 1 := Scalar.cmpi .ne v62 c0_i32_33
  v63

def k0_cond7 (v21 : BitVec 32) : BitVec 1 :=
  let c512_i32 : BitVec 32 := 512#32
  let v39 : BitVec 32 := Scalar.addi v21 c512_i32
  let c1_i32_21 : BitVec 32 := 1#32
  let v40 : BitVec 32 := Scalar.subi v39 c1_i32_21
  let c0_i32_23 : BitVec 32 := 0#32
  let v42 : BitVec 1 := Scalar.cmpi .sgt v40 c0_i32_23
  let v43 : BitVec 32 := Scalar.extui v42
  let c0_i32_24 : BitVec 32 := 0#32
  let v44 : BitVec 1 := Scalar.cmpi .slt v40 c0_i32_24
  let v45 : BitVec 32 := Scalar.extui v44
  let v46 : BitVec 32 := Scalar.subi v43 v45
  let c512_i32_22 : BitVec 32 := 512#32
  let c0_i32_25 : BitVec 32 := 0#32
  let v47 : BitVec 1 := Scalar.cmpi .sgt c512_i32_22 c0_i32_25
  let v48 : BitVec 32 := Scalar.extui v47
  let c0_i32_26 : BitVec 32 := 0#32
  let v49 : BitVec 1 := Scalar.cmpi .slt c512_i32_22 c0_i32_26
  let v50 : BitVec 32 := Scalar.extui v49
  let v51 : BitVec 32 := Scalar.subi v48 v50
  let v52 : BitVec 1 := Scalar.cmpi .ne v46 v51
  let v53 : BitVec 32 := Scalar.remsi v40 c512_i32_22
  let c0_i32_27 : BitVec 32 := 0#32
  let v54 : BitVec 1 := Scalar.cmpi .ne v53 c0_i32_27
  let v55 : BitVec 1 := Scalar.andi v52 v54
  let v41 : BitVec 32 := Scalar.divsi v40 c512_i32_22
  let c1_i32_28 : BitVec 32 := 1#32
  let v56 : BitVec 32 := Scalar.subi v41 c1_i32_28
  let v57 : BitVec 32 := Scalar.select v55 v56 v41
  let c1_i32_29 : BitVec 32 := 1#32
  let v58 : BitVec 32 := Scalar.subi v57 c1_i32_29
  let c0_i32_30 : BitVec 32 := 0#32
  let v59 : BitVec 32 := Scalar.maxsi v58 c0_i32_30
  let c3_i32 : BitVec 32 := 3#32
  let v60 : BitVec 32 := Scalar.minsi v59 c3_i32
  let c1_i32_32 : BitVec 32 := 1#32
  let v62 : BitVec 32 := Scalar.subi v60 c1_i32_32
  let c1_i32_34 : BitVec 32 := 1#32
  let v64 : BitVec 32 := Scalar.subi v62 c1_i32_34
  let c0_i32_35 : BitVec 32 := 0#32
  let v65 : BitVec 1 := Scalar.cmpi .ne v64 c0_i32_35
  v65

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8x2048x128 : Shape := ⟨3, ![8, 2048, 128]⟩
abbrev S8x2048x2048 : Shape := ⟨3, ![8, 2048, 2048]⟩
abbrev S8 : Shape := ⟨1, ![8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S8x2048x64 : Shape := ⟨3, ![8, 2048, 64]⟩
abbrev S1x1x64 : Shape := ⟨3, ![1, 1, 64]⟩
abbrev S_ : Shape := ⟨0, ![]⟩
abbrev S8x2048x32 : Shape := ⟨3, ![8, 2048, 32]⟩
abbrev S1x1x32 : Shape := ⟨3, ![1, 1, 32]⟩
abbrev S2048 : Shape := ⟨1, ![2048]⟩
abbrev S1x2048 : Shape := ⟨2, ![1, 2048]⟩
abbrev S8x1 : Shape := ⟨2, ![8, 1]⟩
abbrev S8x2048 : Shape := ⟨2, ![8, 2048]⟩
abbrev S8x2048x1 : Shape := ⟨3, ![8, 2048, 1]⟩
abbrev S8x32 : Shape := ⟨2, ![8, 32]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S8, .i32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S8x2048x64, .f32⟩
  | .hbm, ⟨10, _⟩ => ⟨S8x2048x64, .f32⟩
  | .hbm, ⟨11, _⟩ => ⟨S1x1x64, .f32⟩
  | .hbm, ⟨12, _⟩ => ⟨S8x2048x64, .f32⟩
  | .hbm, ⟨13, _⟩ => ⟨S8x2048x64, .f32⟩
  | .hbm, ⟨14, _⟩ => ⟨S_, .f32⟩
  | .hbm, ⟨15, _⟩ => ⟨S8x2048x64, .f32⟩
  | .hbm, ⟨16, _⟩ => ⟨S8x2048x64, .f32⟩
  | .hbm, ⟨17, _⟩ => ⟨S8x2048x32, .f32⟩
  | .hbm, ⟨18, _⟩ => ⟨S8x2048x32, .f32⟩
  | .hbm, ⟨19, _⟩ => ⟨S1x1x32, .f32⟩
  | .hbm, ⟨20, _⟩ => ⟨S8x2048x32, .f32⟩
  | .hbm, ⟨21, _⟩ => ⟨S8x2048x32, .f32⟩
  | .hbm, ⟨22, _⟩ => ⟨S_, .f32⟩
  | .hbm, ⟨23, _⟩ => ⟨S8x2048x32, .f32⟩
  | .hbm, ⟨24, _⟩ => ⟨S8x2048x32, .f32⟩
  | .hbm, ⟨25, _⟩ => ⟨S2048, .i32⟩
  | .hbm, ⟨26, _⟩ => ⟨S1x2048, .i32⟩
  | .hbm, ⟨27, _⟩ => ⟨S8x1, .i32⟩
  | .hbm, ⟨28, _⟩ => ⟨S8x2048, .i32⟩
  | .hbm, ⟨29, _⟩ => ⟨S8x2048, .i32⟩
  | .hbm, ⟨30, _⟩ => ⟨S8x2048, .i1⟩
  | .hbm, ⟨31, _⟩ => ⟨S8x2048, .f32⟩
  | .hbm, ⟨32, _⟩ => ⟨S8x2048x1, .f32⟩
  | .hbm, ⟨33, _⟩ => ⟨S8x2048x32, .f32⟩
  | .hbm, ⟨34, _⟩ => ⟨S8x2048x32, .f32⟩
  | .hbm, ⟨35, _⟩ => ⟨S_, .f32⟩
  | .hbm, ⟨36, _⟩ => ⟨S8x32, .f32⟩
  | .hbm, ⟨37, _⟩ => ⟨S8, .f32⟩
  | .hbm, ⟨38, _⟩ => ⟨S8x1, .f32⟩
  | .hbm, ⟨39, _⟩ => ⟨S8x32, .f32⟩
  | .hbm, ⟨40, _⟩ => ⟨S8x32, .f32⟩
  | .hbm, ⟨41, _⟩ => ⟨S8x1, .f32⟩
  | .hbm, ⟨42, _⟩ => ⟨S1x1, .f32⟩
  | .hbm, ⟨43, _⟩ => ⟨S8x1, .f32⟩
  | .hbm, ⟨44, _⟩ => ⟨S8x1, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.Names.lean ====
/-
  Names for the pieces the kernel's own transfers move: graph `g` of the adjacency array, slot `s` of the
  adjacency buffer, the slot's semaphore, and the four row chunks that the first point copies apart. The printed
  offsets are brought to closed form over the point's number.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Ring
public import Idealize.ShloMosaic.Lib.Affine
public import Idealize.ShloMosaic.Lib.Tactic
public import Idealize.ShloMosaic.Lib.ValueIdx
public import Idealize.ShloMosaic.Lib.Pipeline.FrameBody

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

abbrev UU (nD : Nat) (τ : Topo) : Type := Pipeline.UD sig nD τ
local notation "𝕄" => MT nD τ sig Unit (Elt F) ℕ (UU nD τ) ℕ
abbrev 𝒱₀ : Variants := Variants.none

/-- The adjacency array, the buffer of its three slots, and the two slots of first-layer results. -/
abbrev adjM : Memref sig .tc .hbm S8x2048x2048 .f32 := Memref.whole main_arg1
abbrev bufM : Memref sig .tc .vmem S3x2048x2048 .f32 := Memref.whole cc0_scratch0
abbrev s2M : Memref sig .tc .vmem S2x2048x32 .f32 := Memref.whole cc0_scratch1

abbrev grpOff (b : Fin 8) : Fin 3 → Nat := ![b.val, 0, 0]
/-- A graph's adjacency lies in the array. -/
theorem grpOff_inb (b : Fin 8) : ∀ a, grpOff b a + S1x2048x2048.size a ≤ S8x2048x2048.size a := by
  have := b.isLt; intro a; fin_cases a
  · show b.val + 1 ≤ 8; omega
  · show 0 + 2048 ≤ 2048; omega
  · show 0 + 2048 ≤ 2048; omega
abbrev slotOff (s : Fin 3) : Fin 3 → Nat := ![s.val, 0, 0]
/-- A slot lies in the ring of buffers. -/
theorem slotOff_inb (s : Fin 3) : ∀ a, slotOff s a + S1x2048x2048.size a ≤ S3x2048x2048.size a := by
  have := s.isLt; intro a; fin_cases a
  · show s.val + 1 ≤ 3; omega
  · show 0 + 2048 ≤ 2048; omega
  · show 0 + 2048 ≤ 2048; omega
abbrev semOff (s : Fin 3) : Fin 1 → Nat := ![s.val]
/-- A slot's counter lies in the array of counters. -/
theorem semOff_inb (s : Fin 3) : ∀ a, semOff s a + S1.size a ≤ S3.size a := by
  have := s.isLt; intro a; fin_cases a; show s.val + 1 ≤ 3; omega
abbrev qOff (q : Fin 4) : Fin 1 → Nat := ![q.val]
/-- A chunk's counter lies in its array. -/
theorem qOff_inb (q : Fin 4) : ∀ a, qOff q a + S1.size a ≤ S4.size a := by
  have := q.isLt; intro a; fin_cases a; show q.val + 1 ≤ 4; omega
abbrev chOff (q : Fin 4) : Fin 3 → Nat := ![0, 512 * q.val, 0]
/-- A chunk lies in the first slot. -/
theorem chOffB_inb (q : Fin 4) : ∀ a, chOff q a + S1x512x2048.size a ≤ S3x2048x2048.size a := by
  have := q.isLt; intro a; fin_cases a
  · show 0 + 1 ≤ 3; omega
  · show 512 * q.val + 512 ≤ 2048; omega
  · show 0 + 2048 ≤ 2048; omega
/-- A chunk lies in graph 0. -/
theorem chOffA_inb (q : Fin 4) : ∀ a, chOff q a + S1x512x2048.size a ≤ S8x2048x2048.size a := by
  have := q.isLt; intro a; fin_cases a
  · show 0 + 1 ≤ 8; omega
  · show 512 * q.val + 512 ≤ 2048; omega
  · show 0 + 2048 ≤ 2048; omega

/-- Graph `b` of the adjacency array, as the body slices and squeezes it. -/
def grp (b : Fin 8) : Memref sig .tc .hbm S2048x2048 .f32 :=
  (adjM.slice (Rect.unit (s := S8x2048x2048) (grpOff b) S1x2048x2048.size (grpOff_inb b)) (fun _ => rfl)).squeeze S2048x2048 squeezes_S1x2048x2048_S2048x2048
/-- Slot `s` of the adjacency buffer. -/
def aslot (s : Fin 3) : Memref sig .tc .vmem S2048x2048 .f32 :=
  (bufM.slice (Rect.unit (s := S3x2048x2048) (slotOff s) S1x2048x2048.size (slotOff_inb s)) (fun _ => rfl)).squeeze S2048x2048 squeezes_S1x2048x2048_S2048x2048
/-- Slot `s`'s semaphore. -/
def asem (s : Fin 3) : DmaSems sig S_ := (cc0_scratch2.slice (Rect.unit (s := S3) (semOff s) S1.size (semOff_inb s))).squeeze S_ squeezes_S1_S_
/-- Row chunk `q` of graph 0. -/
def gch (q : Fin 4) : Memref sig .tc .hbm S512x2048 .f32 :=
  (adjM.slice (Rect.unit (s := S8x2048x2048) (chOff q) S1x512x2048.size (chOffA_inb q)) (fun _ => rfl)).squeeze S512x2048 squeezes_S1x512x2048_S512x2048
/-- Row chunk `q` of slot 0. -/
def ach (q : Fin 4) : Memref sig .tc .vmem S512x2048 .f32 :=
  (bufM.slice (Rect.unit (s := S3x2048x2048) (chOff q) S1x512x2048.size (chOffB_inb q)) (fun _ => rfl)).squeeze S512x2048 squeezes_S1x512x2048_S512x2048
/-- Chunk `q`'s semaphore. -/
def qsem (q : Fin 4) : DmaSems sig S_ := (cc0_scratch3.slice (Rect.unit (s := S4) (qOff q) S1.size (qOff_inb q))).squeeze S_ squeezes_S1_S_

instance (b : Fin 8) : ClosedOff (grpOff b) := ⟨grpOff b, rfl⟩
instance (s : Fin 3) : ClosedOff (slotOff s) := ⟨slotOff s, rfl⟩
instance (q : Fin 4) : ClosedOff (chOff q) := ⟨chOff q, rfl⟩

/-! ## The printed offsets in closed form -/

/-- The counter of the copy that a point starts. -/
theorem off1_eq : ∀ i : grid0.Coords, k0_off1 i = semOff (Ring.sl 3 ((i 0).val + 1)) := by decide +kernel
/-- The slot that this copy fills. -/
theorem off2_eq : ∀ i : grid0.Coords, k0_off2 i = slotOff (Ring.sl 3 ((i 0).val + 1)) := by decide +kernel
/-- The graph that it copies. -/
theorem off3_eq : ∀ i : grid0.Coords, (i 0).val + 1 < 8 → k0_off3 i = grpOff (Ring.bk 8 ((i 0).val + 1)) := by decide +kernel
/-- The counter that a middle point waits on. -/
theorem off12_eq : ∀ i : grid0.Coords, k0_off12 i = semOff (Ring.sl 3 (i 0).val) := by decide +kernel
/-- The counter that a middle point waits on. -/
theorem off21_eq : ∀ i : grid0.Coords, k0_off21 i = semOff (Ring.sl 3 (i 0).val) := by decide +kernel
/-- The counter that a middle point waits on. -/
theorem off29_eq : ∀ i : grid0.Coords, k0_off29 i = semOff (Ring.sl 3 (i 0).val) := by decide +kernel
/-- The counter that a middle point waits on. -/
theorem off36_eq : ∀ i : grid0.Coords, k0_off36 i = semOff (Ring.sl 3 (i 0).val) := by decide +kernel
/-- The slot that it waits for. -/
theorem off13_eq : ∀ i : grid0.Coords, k0_off13 i = slotOff (Ring.sl 3 (i 0).val) := by decide +kernel
/-- The slot that it waits for. -/
theorem off22_eq : ∀ i : grid0.Coords, k0_off22 i = slotOff (Ring.sl 3 (i 0).val) := by decide +kernel
/-- The slot that it waits for. -/
theorem off30_eq : ∀ i : grid0.Coords, k0_off30 i = slotOff (Ring.sl 3 (i 0).val) := by decide +kernel
/-- The slot that it waits for. -/
theorem off37_eq : ∀ i : grid0.Coords, k0_off37 i = slotOff (Ring.sl 3 (i 0).val) := by decide +kernel
/-- The graph copied there. -/
theorem off14_eq : ∀ i : grid0.Coords, (i 0).val < 8 → k0_off14 i = grpOff (Ring.bk 8 (i 0).val) := by decide +kernel
/-- The graph copied there. -/
theorem off23_eq : ∀ i : grid0.Coords, (i 0).val < 8 → k0_off23 i = grpOff (Ring.bk 8 (i 0).val) := by decide +kernel
/-- The graph copied there. -/
theorem off31_eq : ∀ i : grid0.Coords, (i 0).val < 8 → k0_off31 i = grpOff (Ring.bk 8 (i 0).val) := by decide +kernel
/-- The graph copied there. -/
theorem off38_eq : ∀ i : grid0.Coords, (i 0).val < 8 → k0_off38 i = grpOff (Ring.bk 8 (i 0).val) := by decide +kernel

instance (i : grid0.Coords) : ClosedOff (k0_off6 i) := ⟨![((i 0).val + 4294967295) % 4294967296], by revert i; decide +kernel⟩
instance (i : grid0.Coords) : ClosedOff (k0_off7 i) := ⟨![((i 0).val + 1) % 2, 0, 0], by revert i; decide +kernel⟩
instance (i : grid0.Coords) : ClosedOff (k0_off8 i) := ⟨![(Ring.sl 3 ((i 0).val + 2)).val, 0, 0], by revert i; decide +kernel⟩
instance (i : grid0.Coords) : ClosedOff (k0_off9 i) := ⟨![(Ring.sl 3 ((i 0).val + 2)).val, 512, 0], by revert i; decide +kernel⟩
instance (i : grid0.Coords) : ClosedOff (k0_off10 i) := ⟨![(Ring.sl 3 ((i 0).val + 2)).val, 1024, 0], by revert i; decide +kernel⟩
instance (i : grid0.Coords) : ClosedOff (k0_off11 i) := ⟨![(Ring.sl 3 ((i 0).val + 2)).val, 1536, 0], by revert i; decide +kernel⟩
instance (i : grid0.Coords) : ClosedOff (k0_off18 i) := ⟨![(Ring.sl 3 ((i 0).val + 2)).val, 0, 0], by revert i; decide +kernel⟩
instance (i : grid0.Coords) : ClosedOff (k0_off19 i) := ⟨![(Ring.sl 3 ((i 0).val + 2)).val, 512, 0], by revert i; decide +kernel⟩
instance (i : grid0.Coords) : ClosedOff (k0_off20 i) := ⟨![(Ring.sl 3 ((i 0).val + 2)).val, 1024, 0], by revert i; decide +kernel⟩
instance (i : grid0.Coords) : ClosedOff (k0_off27 i) := ⟨![(Ring.sl 3 ((i 0).val + 2)).val, 0, 0], by revert i; decide +kernel⟩
instance (i : grid0.Coords) : ClosedOff (k0_off28 i) := ⟨![(Ring.sl 3 ((i 0).val + 2)).val, 512, 0], by revert i; decide +kernel⟩
instance (i : grid0.Coords) : ClosedOff (k0_off35 i) := ⟨![(Ring.sl 3 ((i 0).val + 2)).val, 0, 0], by revert i; decide +kernel⟩
instance (i : grid0.Coords) : ClosedOff (k0_off15 i) := ⟨![(Ring.sl 3 (i 0).val).val, 0, 0], by revert i; decide +kernel⟩
instance (i : grid0.Coords) : ClosedOff (k0_off24 i) := ⟨![(Ring.sl 3 (i 0).val).val, 0, 0], by revert i; decide +kernel⟩
instance (i : grid0.Coords) : ClosedOff (k0_off32 i) := ⟨![(Ring.sl 3 (i 0).val).val, 0, 0], by revert i; decide +kernel⟩
instance (i : grid0.Coords) : ClosedOff (k0_off39 i) := ⟨![(Ring.sl 3 (i 0).val).val, 0, 0], by revert i; decide +kernel⟩
instance (i : grid0.Coords) : ClosedOff (k0_off16 i) := ⟨![(i 0).val % 2, 0, 0], by revert i; decide +kernel⟩
instance (i : grid0.Coords) : ClosedOff (k0_off25 i) := ⟨![(i 0).val % 2, 0, 0], by revert i; decide +kernel⟩
instance (i : grid0.Coords) : ClosedOff (k0_off33 i) := ⟨![(i 0).val % 2, 0, 0], by revert i; decide +kernel⟩
instance (i : grid0.Coords) : ClosedOff (k0_off40 i) := ⟨![(i 0).val % 2, 0, 0], by revert i; decide +kernel⟩
instance (i : grid0.Coords) : ClosedOff (k0_off17 i) := ⟨![((i 0).val + 4294967295) % 4294967296, 0], by revert i; decide +kernel⟩
instance (i : grid0.Coords) : ClosedOff (k0_off26 i) := ⟨![((i 0).val + 4294967295) % 4294967296, 0], by revert i; decide +kernel⟩
instance (i : grid0.Coords) : ClosedOff (k0_off34 i) := ⟨![((i 0).val + 4294967295) % 4294967296, 0], by revert i; decide +kernel⟩
instance (i : grid0.Coords) : ClosedOff (k0_off41 i) := ⟨![((i 0).val + 4294967295) % 4294967296, 0], by revert i; decide +kernel⟩

/-! ## The body's slices are these names -/

/-- Counters at equal offsets are one counter. -/
theorem asem_congr {off : Fin 1 → Nat} {s : Fin 3} (e : off = semOff s) (hh) :
    (cc0_scratch2.slice (Rect.unit (s := S3) off S1.size hh)).squeeze S_ squeezes_S1_S_ = asem s :=
  congrArg (fun A : DmaSems sig S1 => A.squeeze S_ squeezes_S1_S_) (SemArray.slice_unit_congr _ e _ _)
/-- The same of the counters of chunks. -/
theorem qsem_congr {off : Fin 1 → Nat} {q : Fin 4} (e : off = qOff q) (hh) :
    (cc0_scratch3.slice (Rect.unit (s := S4) off S1.size hh)).squeeze S_ squeezes_S1_S_ = qsem q :=
  congrArg (fun A : DmaSems sig S1 => A.squeeze S_ squeezes_S1_S_) (SemArray.slice_unit_congr _ e _ _)
/-- Slots at equal offsets are one slot. -/
theorem aslot_congr {off : Fin 3 → Nat} {s : Fin 3} (e : off = slotOff s) (hh hs) :
    (bufM.slice (Rect.unit (s := S3x2048x2048) off S1x2048x2048.size hh) hs).squeeze S2048x2048 squeezes_S1x2048x2048_S2048x2048 = aslot s :=
  congrArg (fun M : Memref sig .tc .vmem S1x2048x2048 .f32 => M.squeeze S2048x2048 squeezes_S1x2048x2048_S2048x2048) (Memref.slice_unit_congr _ e _ _ _ _)
/-- Graphs at equal offsets are one graph. -/
theorem grp_congr {off : Fin 3 → Nat} {b : Fin 8} (e : off = grpOff b) (hh hs) :
    (adjM.slice (Rect.unit (s := S8x2048x2048) off S1x2048x2048.size hh) hs).squeeze S2048x2048 squeezes_S1x2048x2048_S2048x2048 = grp b :=
  congrArg (fun M : Memref sig .tc .hbm S1x2048x2048 .f32 => M.squeeze S2048x2048 squeezes_S1x2048x2048_S2048x2048) (Memref.slice_unit_congr _ e _ _ _ _)
/-- Chunks of the first slot at equal offsets are one chunk. -/
theorem ach_congr {off : Fin 3 → Nat} {q : Fin 4} (e : off = chOff q) (hh hs) :
    (bufM.slice (Rect.unit (s := S3x2048x2048) off S1x512x2048.size hh) hs).squeeze S512x2048 squeezes_S1x512x2048_S512x2048 = ach q :=
  congrArg (fun M : Memref sig .tc .vmem S1x512x2048 .f32 => M.squeeze S512x2048 squeezes_S1x512x2048_S512x2048) (Memref.slice_unit_congr _ e _ _ _ _)
/-- Chunks of graph 0 at equal offsets are one chunk. -/
theorem gch_congr {off : Fin 3 → Nat} {q : Fin 4} (e : off = chOff q) (hh hs) :
    (adjM.slice (Rect.unit (s := S8x2048x2048) off S1x512x2048.size hh) hs).squeeze S512x2048 squeezes_S1x512x2048_S512x2048 = gch q :=
  congrArg (fun M : Memref sig .tc .hbm S1x512x2048 .f32 => M.squeeze S512x2048 squeezes_S1x512x2048_S512x2048) (Memref.slice_unit_congr _ e _ _ _ _)

section Canon
variable (i : grid0.Coords)

@[sl_canon] theorem semN1 (hh) : (cc0_scratch2.slice (Rect.unit (s := S3) (k0_off1 i) S1.size hh)).squeeze S_ squeezes_S1_S_ = asem (Ring.sl 3 ((i 0).val + 1)) := asem_congr (off1_eq i) _
@[sl_canon] theorem semN12 (hh) : (cc0_scratch2.slice (Rect.unit (s := S3) (k0_off12 i) S1.size hh)).squeeze S_ squeezes_S1_S_ = asem (Ring.sl 3 (i 0).val) := asem_congr (off12_eq i) _
@[sl_canon] theorem semN21 (hh) : (cc0_scratch2.slice (Rect.unit (s := S3) (k0_off21 i) S1.size hh)).squeeze S_ squeezes_S1_S_ = asem (Ring.sl 3 (i 0).val) := asem_congr (off21_eq i) _
@[sl_canon] theorem semN29 (hh) : (cc0_scratch2.slice (Rect.unit (s := S3) (k0_off29 i) S1.size hh)).squeeze S_ squeezes_S1_S_ = asem (Ring.sl 3 (i 0).val) := asem_congr (off29_eq i) _
@[sl_canon] theorem semN36 (hh) : (cc0_scratch2.slice (Rect.unit (s := S3) (k0_off36 i) S1.size hh)).squeeze S_ squeezes_S1_S_ = asem (Ring.sl 3 (i 0).val) := asem_congr (off36_eq i) _
@[sl_canon] theorem slotN2 (hh hs) : (bufM.slice (Rect.unit (s := S3x2048x2048) (k0_off2 i) S1x2048x2048.size hh) hs).squeeze S2048x2048 squeezes_S1x2048x2048_S2048x2048 = aslot (Ring.sl 3 ((i 0).val + 1)) := aslot_congr (off2_eq i) _ _
@[sl_canon] theorem slotN13 (hh hs) : (bufM.slice (Rect.unit (s := S3x2048x2048) (k0_off13 i) S1x2048x2048.size hh) hs).squeeze S2048x2048 squeezes_S1x2048x2048_S2048x2048 = aslot (Ring.sl 3 (i 0).val) := aslot_congr (off13_eq i) _ _
@[sl_canon] theorem slotN22 (hh hs) : (bufM.slice (Rect.unit (s := S3x2048x2048) (k0_off22 i) S1x2048x2048.size hh) hs).squeeze S2048x2048 squeezes_S1x2048x2048_S2048x2048 = aslot (Ring.sl 3 (i 0).val) := aslot_congr (off22_eq i) _ _
@[sl_canon] theorem slotN30 (hh hs) : (bufM.slice (Rect.unit (s := S3x2048x2048) (k0_off30 i) S1x2048x2048.size hh) hs).squeeze S2048x2048 squeezes_S1x2048x2048_S2048x2048 = aslot (Ring.sl 3 (i 0).val) := aslot_congr (off30_eq i) _ _
@[sl_canon] theorem slotN37 (hh hs) : (bufM.slice (Rect.unit (s := S3x2048x2048) (k0_off37 i) S1x2048x2048.size hh) hs).squeeze S2048x2048 squeezes_S1x2048x2048_S2048x2048 = aslot (Ring.sl 3 (i 0).val) := aslot_congr (off37_eq i) _ _
@[sl_canon] theorem grpN3 (hn : (i 0).val + 1 < 8) (hh hs) : (adjM.slice (Rect.unit (s := S8x2048x2048) (k0_off3 i) S1x2048x2048.size hh) hs).squeeze S2048x2048 squeezes_S1x2048x2048_S2048x2048 = grp (Ring.bk 8 ((i 0).val + 1)) := grp_congr (off3_eq i hn) _ _
@[sl_canon] theorem grpN14 (hn : (i 0).val < 8) (hh hs) : (adjM.slice (Rect.unit (s := S8x2048x2048) (k0_off14 i) S1x2048x2048.size hh) hs).squeeze S2048x2048 squeezes_S1x2048x2048_S2048x2048 = grp (Ring.bk 8 (i 0).val) := grp_congr (off14_eq i hn) _ _
@[sl_canon] theorem grpN23 (hn : (i 0).val < 8) (hh hs) : (adjM.slice (Rect.unit (s := S8x2048x2048) (k0_off23 i) S1x2048x2048.size hh) hs).squeeze S2048x2048 squeezes_S1x2048x2048_S2048x2048 = grp (Ring.bk 8 (i 0).val) := grp_congr (off23_eq i hn) _ _
@[sl_canon] theorem grpN31 (hn : (i 0).val < 8) (hh hs) : (adjM.slice (Rect.unit (s := S8x2048x2048) (k0_off31 i) S1x2048x2048.size hh) hs).squeeze S2048x2048 squeezes_S1x2048x2048_S2048x2048 = grp (Ring.bk 8 (i 0).val) := grp_congr (off31_eq i hn) _ _
@[sl_canon] theorem grpN38 (hn : (i 0).val < 8) (hh hs) : (adjM.slice (Rect.unit (s := S8x2048x2048) (k0_off38 i) S1x2048x2048.size hh) hs).squeeze S2048x2048 squeezes_S1x2048x2048_S2048x2048 = grp (Ring.bk 8 (i 0).val) := grp_congr (off38_eq i hn) _ _

@[sl_canon] theorem qsemL0 (hh) : (cc0_scratch3.slice (Rect.unit (s := S4) ![0] S1.size hh)).squeeze S_ squeezes_S1_S_ = qsem 0 := qsem_congr (by decide) _
@[sl_canon] theorem qsemL1 (hh) : (cc0_scratch3.slice (Rect.unit (s := S4) ![1] S1.size hh)).squeeze S_ squeezes_S1_S_ = qsem 1 := qsem_congr (by decide) _
@[sl_canon] theorem qsemL2 (hh) : (cc0_scratch3.slice (Rect.unit (s := S4) ![2] S1.size hh)).squeeze S_ squeezes_S1_S_ = qsem 2 := qsem_congr (by decide) _
@[sl_canon] theorem qsemL3 (hh) : (cc0_scratch3.slice (Rect.unit (s := S4) ![3] S1.size hh)).squeeze S_ squeezes_S1_S_ = qsem 3 := qsem_congr (by decide) _
@[sl_canon] theorem achL0 (hh hs) : (bufM.slice (Rect.unit (s := S3x2048x2048) ![0, 0, 0] S1x512x2048.size hh) hs).squeeze S512x2048 squeezes_S1x512x2048_S512x2048 = ach 0 := ach_congr (by decide) _ _
@[sl_canon] theorem achL1 (hh hs) : (bufM.slice (Rect.unit (s := S3x2048x2048) ![0, 512, 0] S1x512x2048.size hh) hs).squeeze S512x2048 squeezes_S1x512x2048_S512x2048 = ach 1 := ach_congr (by decide) _ _
@[sl_canon] theorem achL2 (hh hs) : (bufM.slice (Rect.unit (s := S3x2048x2048) ![0, 1024, 0] S1x512x2048.size hh) hs).squeeze S512x2048 squeezes_S1x512x2048_S512x2048 = ach 2 := ach_congr (by decide) _ _
@[sl_canon] theorem achL3 (hh hs) : (bufM.slice (Rect.unit (s := S3x2048x2048) ![0, 1536, 0] S1x512x2048.size hh) hs).squeeze S512x2048 squeezes_S1x512x2048_S512x2048 = ach 3 := ach_congr (by decide) _ _
@[sl_canon] theorem gchL0 (hh hs) : (adjM.slice (Rect.unit (s := S8x2048x2048) ![0, 0, 0] S1x512x2048.size hh) hs).squeeze S512x2048 squeezes_S1x512x2048_S512x2048 = gch 0 := gch_congr (by decide) _ _
@[sl_canon] theorem gchL1 (hh hs) : (adjM.slice (Rect.unit (s := S8x2048x2048) ![0, 512, 0] S1x512x2048.size hh) hs).squeeze S512x2048 squeezes_S1x512x2048_S512x2048 = gch 1 := gch_congr (by decide) _ _
@[sl_canon] theorem gchL2 (hh hs) : (adjM.slice (Rect.unit (s := S8x2048x2048) ![0, 1024, 0] S1x512x2048.size hh) hs).squeeze S512x2048 squeezes_S1x512x2048_S512x2048 = gch 2 := gch_congr (by decide) _ _
@[sl_canon] theorem gchL3 (hh hs) : (adjM.slice (Rect.unit (s := S8x2048x2048) ![0, 1536, 0] S1x512x2048.size hh) hs).squeeze S512x2048 squeezes_S1x512x2048_S512x2048 = gch 3 := gch_congr (by decide) _ _

end Canon

/-! ## The conditions at a point -/

/-- The first test holds at point 0 alone. -/
theorem cond0_iff : ∀ i : grid0.Coords, (Scalar.cmpi .ne (Scalar.extui (Scalar.cmpi .eq (BitVec.ofNat 32 (i 0).val) 0#32)) 0#32 = 1#1) ↔ (i 0).val = 0 := by decide +kernel
/-- A further copy is started before point 7. -/
theorem cond2_iff : ∀ i : grid0.Coords, k0_cond2 i = 1#1 ↔ (i 0).val < 7 := by decide +kernel
/-- The last test holds at point 8 alone. -/
theorem cond3_iff : ∀ i : grid0.Coords, k0_cond3 i = 1#1 ↔ (i 0).val = 8 := by decide +kernel
/-- The switch is reached at points 1 to 7. -/
theorem cond4_iff : ∀ i : grid0.Coords, k0_cond4 i = 1#1 ↔ 1 ≤ (i 0).val ∧ (i 0).val < 8 := by decide +kernel

/-! ## The pieces -/

section Pieces
variable (c : Dev nD) (XA : Buf (Elt F) (adjM.view.loc (c : Thread nD τ)))

abbrev cellP (s : Fin 3) : sProp 𝕄 := semVal ((c : Thread nD τ), SemLoc.dma (asem s).sem) 0
abbrev qcellP (q : Fin 4) : sProp 𝕄 := semVal ((c : Thread nD τ), SemLoc.dma (qsem q).sem) 0
abbrev slotP (s : Fin 3) (f : Buf (Elt F) ((aslot s).view.loc (c : Thread nD τ))) : sProp 𝕄 :=
  (aslot s).view.loc (c : Thread nD τ) ↦[(aslot s).view.set]{fullShare} f
abbrev chunkP (q : Fin 4) (f : Buf (Elt F) ((ach q).view.loc (c : Thread nD τ))) : sProp 𝕄 :=
  (ach q).view.loc (c : Thread nD τ) ↦[(ach q).view.set]{fullShare} f
abbrev homeP (b : Fin 8) : sProp 𝕄 := (grp b).view.loc (c : Thread nD τ) ↦[(grp b).view.set]{fullShare} XA
abbrev hchunkP (q : Fin 4) : sProp 𝕄 := (gch q).view.loc (c : Thread nD τ) ↦[(gch q).view.set]{fullShare} XA
/-- Graph `b` in a slot of the buffer (any slot's rows and columns are the graph's). -/
def adjBuf (b : Fin 8) : S3x2048x2048.Idx → Elt F .f32 := fun y => XA (ix3 b (y 1 : Fin 2048) (y 2 : Fin 2048))
/-- Slot `s` in flight with graph `b`. -/
abbrev flightP (s : Fin 3) (b : Fin 8) : sProp 𝕄 :=
  Transfers.Flight countersEmb (c : Thread nD τ) (SemLoc.dma (asem s).sem) () 524288 iprop(slotP c s (adjBuf c XA b) ∗ homeP c XA b)
end Pieces

end Cert.Proof.Gcn

end
-- ==== Proof.Values.lean ====
/-
  What a grid point computes, as functions of what it reads: the second-layer input of one graph, the sum of a
  graph's rows over its first tiles, and the result of the last small layer. The kernel's branches, its final loop
  and its first point all store values of these forms.
-/
module

public import proofs.«01_k».proof.Proof.Names
public import Idealize.ShloMosaic.Lib.VecWindow
public import Idealize.ShloMosaic.Lib.WritesUnit
public import Idealize.ShloMosaic.Lib.ValueLayout

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-! ## The computed values -/

/-- Row numbers within a tile. -/
def rowIota : IVec S512x1 32 := iota .tc S512x1 32 [0] iota_S512x1_d0_w32

/-- One tile of 512 rows of the second layer, added to the sum so far: rows numbered from `o` that reach the
    length `L` contribute zero. -/
def tileStep (L : BitVec 32) (s2 : FVec F S2048x32 .f32) (b2 : Vec F S1x32 .f32) (acc : FVec F S1x32 .f32) (o : BitVec 32)
    (tq : Vec F S1x512x2048 .f32) : FVec F S1x32 .f32 :=
  addf acc (shapeCast S1x32 (multiReduction .add [0] S32
    (select (broadcastTo S512x32 (shapeCast S512x1 (cmpi .slt (addi rowIota (broadcast S512x1 o)) (broadcast S512x1 L)) shapeCasts_S512x1_S512x1) broadcasts_S512x1_S512x32)
      (maximumf (addf (matmul dot_S512x2048_S2048x32_S512x32_1_0_0_1_n_n none (shapeCast S512x2048 tq shapeCasts_S1x512x2048_S512x2048) s2 (constant S512x32 .f32 0x00000000#32))
          (broadcastTo S512x32 (shapeCast S1x32 b2 shapeCasts_S1x32_S1x32) broadcasts_S1x32_S512x32))
        (broadcast S512x32 (Scalar.ofBits .f32 0x00000000#32)))
      (broadcast S512x32 (Scalar.ofBits .f32 0x00000000#32)))
    0x00000000#32 reduces_S512x32_S32 (.inl rfl) rfl) shapeCasts_S32_S1x32)

/-- The sum over the first `n` tiles. -/
def pool (L : BitVec 32) (s2 : FVec F S2048x32 .f32) (b2 : Vec F S1x32 .f32) (tl : ℕ → Vec F S1x512x2048 .f32) : ℕ → FVec F S1x32 .f32
  | 0 => broadcast S1x32 (Scalar.ofBits .f32 0x00000000#32)
  | n + 1 => tileStep L s2 b2 (pool L s2 b2 tl n) (BitVec.ofNat 32 (512 * n)) (tl n)

/-- The number of tiles that a middle point sums, as its branches choose it from the length. -/
def tilesM (L : BitVec 32) : ℕ :=
  if k0_cond5 L = 1#1 then (if k0_cond6 L = 1#1 then (if k0_cond7 L = 1#1 then 4 else 3) else 2) else 1
/-- The number of tiles that the final loop sums. -/
def tilesL (L : BitVec 32) : ℕ := (k0_t1_loop L).trips

/-- The mean over the length, through the last layer. -/
def headR (L : BitVec 32) (p : FVec F S1x32 .f32) (wl : Vec F S32x1 .f32) (bl : Vec F S1x1 .f32) : FVec F S1x1 .f32 := k0_pay8 L p wl bl

/-- One graph's result: its rows summed over the number of tiles that `tl` gives for its length, then the last layer. -/
def rowOf (tl : BitVec 32 → ℕ) (L : BitVec 32) (s2 : Vec F S1x2048x32 .f32) (b2 : Vec F S1x32 .f32) (wl : Vec F S32x1 .f32) (bl : Vec F S1x1 .f32)
    (A : ℕ → Vec F S1x512x2048 .f32) : FVec F S1x1 .f32 := headR L (pool L (k0_pay33 s2) b2 A (tl L)) wl bl

/-- One graph's second-layer input, before its adjacency product. -/
def s2Of (x : Vec F S1x2048x128 .f32) (w1 : Vec F S128x64 .f32) (b1 : Vec F S1x64 .f32) (w2 : Vec F S64x32 .f32)
    (A : Vec F S1x2048x2048 .f32) : FVec F S1x2048x32 .f32 := k0_pay7 (k0_pay32 (k0_pay34 x w1) A b1) w2

/-- Graph `g` of an adjacency array, and its rows from `512 q` on. -/
def graphA (XA : S8x2048x2048.Idx → Elt F .f32) (g : Fin 8) : Vec F S1x2048x2048 .f32 := fun y => XA (ix3 g (y 1 : Fin 2048) (y 2 : Fin 2048))
def tileA (XA : S8x2048x2048.Idx → Elt F .f32) (g : Fin 8) (q : ℕ) : Vec F S1x512x2048 .f32 :=
  fun y => XA (ix3 g (Fin.ofNat 2048 (512 * q + (y 1).val)) (y 2 : Fin 2048))
/-- Slot `s` of the two second-layer inputs. -/
def s2Slot (f : S2x2048x32.Idx → Elt F .f32) (s : Fin 2) : Vec F S1x2048x32 .f32 := fun y => f (ix3 s (y 1 : Fin 2048) (y 2 : Fin 32))
/-- The two slots with slot `s` replaced. -/
def putS2 (s : ℕ) (w : Vec F S1x2048x32 .f32) (f : S2x2048x32.Idx → Elt F .f32) : S2x2048x32.Idx → Elt F .f32 :=
  fun y => if (y 0).val = s then w (ix3 (0 : Fin 1) (y 1 : Fin 2048) (y 2 : Fin 32)) else f y
/-- A column of results with row `k` replaced. -/
def putRow (k : ℕ) (r : Vec F S1x1 .f32) (Y : S8x1.Idx → Elt F .f32) : S8x1.Idx → Elt F .f32 :=
  fun y => if (y 0).val = k then r (ix2 (0 : Fin 1) (0 : Fin 1)) else Y y

/-! ## The four branches and the first point store these values -/

section Branches
variable {L L' : BitVec 32} {s s' : Vec F S1x2048x32 .f32} {b b' : Vec F S1x32 .f32} {w w' : Vec F S32x1 .f32} {l l' : Vec F S1x1 .f32}
  {t0 t1 t2 t3 : Vec F S1x512x2048 .f32} {A : ℕ → Vec F S1x512x2048 .f32}

/-- One tile. -/
theorem row1_eq (hL : L = L') (hs : s = s') (hb : b = b') (hw : w = w') (hl : l = l') (h0 : t0 = A 0) (h5 : ¬ k0_cond5 L = 1#1) :
    k0_pay8 L (k0_pay31 rowIota L (k0_pay33 s) t0 b) w l = rowOf tilesM L' s' b' w' l' A := by
  subst hL hs hb hw hl h0
  unfold rowOf tilesM; rw [if_neg h5]; rfl
/-- Two tiles. -/
theorem row2_eq (hL : L = L') (hs : s = s') (hb : b = b') (hw : w = w') (hl : l = l') (h0 : t0 = A 0) (h1 : t1 = A 1)
    (h5 : k0_cond5 L = 1#1) (h6 : ¬ k0_cond6 L = 1#1) :
    k0_pay6 L (k0_pay29 rowIota L (k0_pay33 s) (k0_pay28 rowIota L (k0_pay33 s) t0 b) t1 b) w l = rowOf tilesM L' s' b' w' l' A := by
  subst hL hs hb hw hl h0 h1
  unfold rowOf tilesM; rw [if_pos h5, if_neg h6]; rfl
/-- Three tiles. -/
theorem row3_eq (hL : L = L') (hs : s = s') (hb : b = b') (hw : w = w') (hl : l = l') (h0 : t0 = A 0) (h1 : t1 = A 1) (h2 : t2 = A 2)
    (h5 : k0_cond5 L = 1#1) (h6 : k0_cond6 L = 1#1) (h7 : ¬ k0_cond7 L = 1#1) :
    k0_pay4 L (k0_pay26 rowIota L (k0_pay24 rowIota L (k0_pay33 s) (k0_pay23 rowIota L (k0_pay33 s) t0 b) t1 b) (k0_pay25 (k0_pay33 s) t2) b) w l
      = rowOf tilesM L' s' b' w' l' A := by
  subst hL hs hb hw hl h0 h1 h2
  unfold rowOf tilesM; rw [if_pos h5, if_pos h6, if_neg h7]; rfl
/-- Four tiles. -/
theorem row4_eq (hL : L = L') (hs : s = s') (hb : b = b') (hw : w = w') (hl : l = l') (h0 : t0 = A 0) (h1 : t1 = A 1) (h2 : t2 = A 2) (h3 : t3 = A 3)
    (h5 : k0_cond5 L = 1#1) (h6 : k0_cond6 L = 1#1) (h7 : k0_cond7 L = 1#1) :
    k0_pay2 (k0_pay22 L (k0_pay20 (k0_pay17 rowIota L (k0_pay15 rowIota L (k0_pay33 s) (k0_pay14 rowIota L (k0_pay33 s) t0 b) t1 b) (k0_pay16 (k0_pay33 s) t2) b)
        (k0_pay18 (k0_pay33 s) t3 b) (Scalar.ofBits .f32 0x00000000#32) (k0_pay19 (F := F) rowIota L)) w) l
      = rowOf tilesM L' s' b' w' l' A := by
  subst hL hs hb hw hl h0 h1 h2 h3
  unfold rowOf tilesM; rw [if_pos h5, if_pos h6, if_pos h7]; rfl

variable {x x' : Vec F S1x2048x128 .f32} {u u' : Vec F S128x64 .f32} {d d' : Vec F S1x64 .f32} {v v' : Vec F S64x32 .f32} {G G' : Vec F S1x2048x2048 .f32}
/-- The hidden layer depends on its operands alone, as one branch of the switch writes it. -/
theorem s2a_eq (hx : x = x') (hu : u = u') (hd : d = d') (hv : v = v') (hG : G = G') :
    k0_pay7 (k0_pay32 (k0_pay34 x u) G d) v = s2Of x' u' d' v' G' := by subst hx hu hd hv hG; rfl
/-- The same as a second branch writes it. -/
theorem s2b_eq (hx : x = x') (hu : u = u') (hd : d = d') (hv : v = v') (hG : G = G') :
    k0_pay5 (k0_pay30 (k0_pay34 x u) G d v) = s2Of x' u' d' v' G' := by subst hx hu hd hv hG; rfl
/-- As a third branch writes it. -/
theorem s2c_eq (hx : x = x') (hu : u = u') (hd : d = d') (hv : v = v') (hG : G = G') :
    k0_pay3 (k0_pay27 (k0_pay34 x u) G d v) = s2Of x' u' d' v' G' := by subst hx hu hd hv hG; rfl
/-- As the fourth branch writes it. -/
theorem s2d_eq (hx : x = x') (hu : u = u') (hd : d = d') (hv : v = v') (hG : G = G') :
    k0_pay21 (k0_pay34 x u) G d v = s2Of x' u' d' v' G' := by subst hx hu hd hv hG; rfl

end Branches

/-! ## Loads and stores read as these -/

/-- Equal assertions entail each other. -/
theorem ent_of_eq {P Q : sProp 𝕄} (e : P = Q) : P ⊢ Q := e ▸ BIBase.Entails.rfl

section Reads
variable (c : Dev nD)

/-- A load of 512 rows of a slot that holds graph `g` reads the graph's rows. -/
theorem tile_read (XA : Buf (Elt F) (adjM.view.loc (c : Thread nD τ))) (g : Fin 8) {off : Fin 3 → ℕ} (inb : ∀ a, off a + S1x512x2048.size a ≤ S3x2048x2048.size a) (s q : ℕ)
    (h : off = ![s, 512 * q, 0]) :
    bufM.view.readAt (Elt F) (Rect.unit (s := S3x2048x2048) off S1x512x2048.size inb).toLoadRect (adjBuf c XA g) = tileA XA g q := by
  subst h
  funext y
  have hq : 512 * q + 512 ≤ 2048 := inb 1
  have hy : (y 1).val < 512 := (y 1).isLt
  show XA _ = XA _
  congr 1
  refine congrArg₂ (ix3 g) (Fin.ext ?_) (Fin.ext ?_)
  · show 512 * q + 1 * (y 1).val = (512 * q + (y 1).val) % 2048
    rw [Nat.mod_eq_of_lt (by omega)]; omega
  · show 0 + 1 * (y 2).val = (y 2).val; omega

/-- A load of the whole of a slot that holds graph `g` reads the graph. -/
theorem graph_read (XA : Buf (Elt F) (adjM.view.loc (c : Thread nD τ))) (g : Fin 8) {off : Fin 3 → ℕ} (inb : ∀ a, off a + S1x2048x2048.size a ≤ S3x2048x2048.size a) (s : ℕ)
    (h : off = ![s, 0, 0]) :
    bufM.view.readAt (Elt F) (Rect.unit (s := S3x2048x2048) off S1x2048x2048.size inb).toLoadRect (adjBuf c XA g) = graphA XA g := by
  subst h
  funext y
  show XA _ = XA _
  congr 1
  refine congrArg₂ (ix3 g) (Fin.ext ?_) (Fin.ext ?_)
  · show 0 + 1 * (y 1).val = (y 1).val; omega
  · show 0 + 1 * (y 2).val = (y 2).val; omega

/-- A load of one of the two second-layer slots reads it. -/
theorem s2_read (f : Buf (Elt F) (s2M.view.loc (c : Thread nD τ))) {off : Fin 3 → ℕ} (inb : ∀ a, off a + S1x2048x32.size a ≤ S2x2048x32.size a) (s : Fin 2)
    (h : off = ![s.val, 0, 0]) :
    s2M.view.readAt (Elt F) (Rect.unit (s := S2x2048x32) off S1x2048x32.size inb).toLoadRect f = s2Slot f s := by
  subst h
  funext y
  have h0 : (y 0).val < 1 := (y 0).isLt
  show f _ = f _
  congr 1
  funext a; apply Fin.ext
  match a with
  | ⟨0, _⟩ => show s.val + 1 * (y 0).val = s.val; omega
  | ⟨1, _⟩ => show 0 + 1 * (y 1).val = (y 1).val; omega
  | ⟨2, _⟩ => show 0 + 1 * (y 2).val = (y 2).val; omega

/-- A store of a whole second-layer slot replaces it, through any view of that shape. -/
theorem s2_stored_view {κ : Kind} {sp : Space} (v : View sig κ sp S2x2048x32 .f32) (f : v.ty.Contents (Elt F)) {off : Fin 3 → ℕ} (inb : ∀ a, off a + S1x2048x32.size a ≤ S2x2048x32.size a) (s : ℕ)
    (h : off = ![s, 0, 0]) (w : Vec F S1x2048x32 .f32) :
    v.read (Elt F) (v.writes (Elt F) f [⟨Rect.unit (s := S2x2048x32) off S1x2048x32.size inb, w⟩]) = putS2 s w (v.read (Elt F) f) := by
  subst h
  funext y
  refine Eq.trans (View.read_writes_cons_unit (Val := Elt F) v f inb w [] y rfl) ?_
  unfold putS2
  have h1 : (y 1).val < 2048 := (y 1).isLt
  have h2 : (y 2).val < 32 := (y 2).isLt
  by_cases hs : (y 0).val = s
  · rw [if_pos hs, dif_pos (fun a => by
      match a with
      | ⟨0, _⟩ => show s ≤ (y 0).val ∧ (y 0).val < s + 1; omega
      | ⟨1, _⟩ => show 0 ≤ (y 1).val ∧ (y 1).val < 0 + 2048; omega
      | ⟨2, _⟩ => show 0 ≤ (y 2).val ∧ (y 2).val < 0 + 32; omega)]
    congr 1
    funext a; apply Fin.ext
    match a with
    | ⟨0, _⟩ => show (y 0).val - s = 0; omega
    | ⟨1, _⟩ => show (y 1).val - 0 = (y 1).val; omega
    | ⟨2, _⟩ => show (y 2).val - 0 = (y 2).val; omega
  · rw [if_neg hs, dif_neg (fun H => by
      have a0 : s ≤ (y 0).val ∧ (y 0).val < s + 1 := H 0
      omega)]
    rfl
/-- A store of one result replaces its row. -/
theorem row_stored (arg10 : Memref sig .tc .vmem S8x1 .f32) (Y : Buf (Elt F) (arg10.view.loc (c : Thread nD τ))) {off : Fin 2 → ℕ} (inb : ∀ a, off a + S1x1.size a ≤ S8x1.size a)
    (k : ℕ) (h : off = ![k, 0]) (w : Vec F S1x1 .f32) :
    arg10.view.read (Elt F) (arg10.view.writes (Elt F) Y [⟨Rect.unit (s := S8x1) off S1x1.size inb, w⟩]) = putRow k w (arg10.view.read (Elt F) Y) := by
  subst h
  funext y
  refine Eq.trans (View.read_writes_cons_unit (Val := Elt F) arg10.view Y inb w [] y rfl) ?_
  unfold putRow
  have h1 : (y 1).val < 1 := (y 1).isLt
  by_cases hs : (y 0).val = k
  · rw [if_pos hs, dif_pos (fun a => by
      match a with
      | ⟨0, _⟩ => show k ≤ (y 0).val ∧ (y 0).val < k + 1; omega
      | ⟨1, _⟩ => show 0 ≤ (y 1).val ∧ (y 1).val < 0 + 1; omega)]
    congr 1
    funext a; apply Fin.ext
    match a with
    | ⟨0, _⟩ => show (y 0).val - k = 0; omega
    | ⟨1, _⟩ => show (y 1).val - 0 = 0; omega
  · rw [if_neg hs, dif_neg (fun H => by
      have a0 : k ≤ (y 0).val ∧ (y 0).val < k + 1 := H 0
      omega)]
    rfl

/-- A scalar load of the length table reads its word. -/
theorem word_read (arg1 : Memref sig .tc .smem S8 .i32) (T1 : Buf (Elt F) (arg1.view.loc (c : Thread nD τ))) {off : Fin 1 → ℕ} (inb : ∀ a, off a + S1.size a ≤ S8.size a)
    (k : Fin 8) (h : off = ![k.val]) (h1) :
    arg1.view.readAt (Elt F) (Rect.unit (s := S8) off S1.size inb).toLoadRect T1 (Shape.Idx.first h1) = arg1.view.read (Elt F) T1 (ix1 k) := by
  subst h
  show arg1.view.read (Elt F) T1 _ = _
  congr 1
  funext a; apply Fin.ext
  match a with
  | ⟨0, _⟩ => show k.val + 1 * 0 = k.val; omega

/-- Where row `p`, column `q` of a graph, of a slot, lie in the array, in the buffer. -/
theorem grp_emb (b : Fin 8) (p q : Fin 2048) : (grp b).view.emb (ix2 p q) = ix3 b p q := by
  have e := congrArg (fun z => (Rect.unit (s := S8x2048x2048) (grpOff b) S1x2048x2048.size (grpOff_inb b)).emb z)
    (reshapeEquiv_ix2_1ab (a := 2048) (b := 2048) squeezes_S1x2048x2048_S2048x2048.numel_eq p q)
  refine Eq.trans e ?_
  funext a; apply Fin.ext
  match a with
  | ⟨0, _⟩ => show b.val + 1 * 0 = b.val; omega
  | ⟨1, _⟩ => show 0 + 1 * p.val = p.val; omega
  | ⟨2, _⟩ => show 0 + 1 * q.val = q.val; omega
/-- Where a slot puts its entries. -/
theorem aslot_emb (s : Fin 3) (p q : Fin 2048) : (aslot s).view.emb (ix2 p q) = ix3 s p q := by
  have e := congrArg (fun z => (Rect.unit (s := S3x2048x2048) (slotOff s) S1x2048x2048.size (slotOff_inb s)).emb z)
    (reshapeEquiv_ix2_1ab (a := 2048) (b := 2048) squeezes_S1x2048x2048_S2048x2048.numel_eq p q)
  refine Eq.trans e ?_
  funext a; apply Fin.ext
  match a with
  | ⟨0, _⟩ => show s.val + 1 * 0 = s.val; omega
  | ⟨1, _⟩ => show 0 + 1 * p.val = p.val; omega
  | ⟨2, _⟩ => show 0 + 1 * q.val = q.val; omega

/-- Two contents that read alike through a view agree on its elements. -/
theorem agree_of_read {κ : Kind} {sp : Space} {s : Shape} {e : EltTy} (v : View sig κ sp s e) (f g : v.ty.Contents (Elt F))
    (h : ∀ x, v.read (Elt F) f x = v.read (Elt F) g x) : ∀ y ∈ v.set, f y = g y := by
  intro y hy
  obtain ⟨x, -, rfl⟩ := Finset.mem_map.1 hy
  have := h x
  rw [View.read_apply, View.read_apply] at this
  exact (cast_inj _).1 this

/-- A graph's adjacency, read. -/
theorem grp_read (XA : Buf (Elt F) (adjM.view.loc (c : Thread nD τ))) (b : Fin 8) (p q : Fin 2048) :
    (grp b).view.read (Elt F) XA (ix2 p q) = (XA : S8x2048x2048.Idx → Elt F .f32) (ix3 b p q) := by
  exact congrArg (XA : S8x2048x2048.Idx → Elt F .f32) (grp_emb b p q)
/-- A slot, read. -/
theorem aslot_read (f : Buf (Elt F) (bufM.view.loc (c : Thread nD τ))) (s : Fin 3) (p q : Fin 2048) :
    (aslot s).view.read (Elt F) f (ix2 p q) = (f : S3x2048x2048.Idx → Elt F .f32) (ix3 s p q) := by
  exact congrArg (f : S3x2048x2048.Idx → Elt F .f32) (aslot_emb s p q)

/-- What a graph's transfer leaves in a slot is the graph. -/
theorem landed_eq (XA : Buf (Elt F) (adjM.view.loc (c : Thread nD τ))) (s : Fin 3) (b : Fin 8) (f : Buf (Elt F) ((aslot s).view.loc (c : Thread nD τ))) :
    slotP c s ((aslot s).view.writes (Elt F) f [⟨Rect.whole S2048x2048, ReadAs.same.apply ((grp b).view.read (Elt F) XA)⟩]) = (slotP c s (adjBuf c XA b) : sProp 𝕄) := by
  refine pointsTo_congr (agree_of_read (aslot s).view _ _ fun x => ?_)
  have e := congrFun (View.read_writes_whole (Val := Elt F) (aslot s).view f (ReadAs.same.apply ((grp b).view.read (Elt F) XA))) x
  refine e.trans ?_
  obtain ⟨p, q, rfl⟩ : ∃ p q, x = ix2 p q := ⟨x 0, x 1, eq_ix2 x⟩
  refine (grp_read c XA b p q).trans ?_
  exact (aslot_read c (adjBuf c XA b) s p q).symm

/-- The two second-layer slots at contents `f`. -/
abbrev s2P (f : Buf (Elt F) (s2M.view.loc (c : Thread nD τ))) : sProp 𝕄 := s2M.view.loc (c : Thread nD τ) ↦[s2M.view.set]{fullShare} f
/-- A store of a whole second-layer slot replaces it. -/
theorem s2_stored (f : Buf (Elt F) (s2M.view.loc (c : Thread nD τ))) {off : Fin 3 → ℕ} (inb : ∀ a, off a + S1x2048x32.size a ≤ S2x2048x32.size a) (s : ℕ)
    (h : off = ![s, 0, 0]) (w : Vec F S1x2048x32 .f32) :
    s2P c (s2M.view.writes (Elt F) f [⟨Rect.unit (s := S2x2048x32) off S1x2048x32.size inb, w⟩]) = (s2P c (putS2 s w f) : sProp 𝕄) :=
  pointsTo_congr (agree_of_read s2M.view _ _ fun x => congrFun (s2_stored_view s2M.view f inb s h w) x)

/-- A transfer just started is the slot in flight. -/
theorem flight_started (XA : Buf (Elt F) (adjM.view.loc (c : Thread nD τ))) (s : Fin 3) (b : Fin 8) (f : Buf (Elt F) ((aslot s).view.loc (c : Thread nD τ))) :
    (Transfers.Flight countersEmb (c : Thread nD τ) (SemLoc.dma (asem s).sem) () 524288
      iprop(slotP c s ((aslot s).view.writes (Elt F) f [⟨Rect.whole S2048x2048, ReadAs.same.apply ((grp b).view.read (Elt F) XA)⟩]) ∗ homeP c XA b) : sProp 𝕄)
      ⊢ flightP c XA s b := by
  rw [landed_eq]

end Reads

end Cert.Proof.Gcn

end
-- ==== Proof.Mid.lean ====
/-
  One grid point between the first and the last. It starts the next graph's transfer (except the point that is the last but one), waits for
  its own graph, stores that graph's second-layer input, and stores the previous graph's result.
-/
module

public import proofs.«01_k».proof.Proof.Values

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-! ## Offsets of the stores and loads -/

/-- The row of the results that one branch of the switch stores. -/
theorem off17_row : ∀ i : grid0.Coords, 1 ≤ (i 0).val → k0_off17 i = ![(i 0).val - 1, 0] := by decide +kernel
/-- The same for a second branch. -/
theorem off26_row : ∀ i : grid0.Coords, 1 ≤ (i 0).val → k0_off26 i = ![(i 0).val - 1, 0] := by decide +kernel
/-- The same for a third branch. -/
theorem off34_row : ∀ i : grid0.Coords, 1 ≤ (i 0).val → k0_off34 i = ![(i 0).val - 1, 0] := by decide +kernel
/-- The same for the fourth branch. -/
theorem off41_row : ∀ i : grid0.Coords, 1 ≤ (i 0).val → k0_off41 i = ![(i 0).val - 1, 0] := by decide +kernel
/-- The length that a middle point reads is that of the graph before. -/
theorem off6_word : ∀ i : grid0.Coords, 1 ≤ (i 0).val → k0_off6 i = ![(Ring.bk 8 ((i 0).val - 1)).val] := by decide +kernel

section Body
variable (c : Dev nD) (XA : Buf (Elt F) (adjM.view.loc (c : Thread nD τ)))
  (arg1 : Memref sig .tc .smem S8 .i32) (harg1 : arg1.IsWhole) (arg2 : Memref sig .tc .vmem S1x2048x128 .f32) (harg2 : arg2.IsWhole)
  (arg4 : Memref sig .tc .vmem S128x64 .f32) (harg4 : arg4.IsWhole) (arg5 : Memref sig .tc .vmem S1x64 .f32) (harg5 : arg5.IsWhole)
  (arg6 : Memref sig .tc .vmem S64x32 .f32) (harg6 : arg6.IsWhole) (arg7 : Memref sig .tc .vmem S1x32 .f32) (harg7 : arg7.IsWhole)
  (arg8 : Memref sig .tc .vmem S32x1 .f32) (harg8 : arg8.IsWhole) (arg9 : Memref sig .tc .vmem S1x1 .f32) (harg9 : arg9.IsWhole)
  (arg10 : Memref sig .tc .vmem S8x1 .f32) (harg10 : arg10.IsWhole)

abbrev bodyG (i : grid0.Coords) : Prog (TpuEff nD τ sig (Elt F) Λ₀ .tc) PUnit :=
  cc0__gcn_kernel i arg1 harg1 arg2 harg2 adjM (Memref.isWhole_whole _) arg4 harg4 arg5 harg5 arg6 harg6 arg7 harg7 arg8 harg8 arg9 harg9
    arg10 harg10 bufM (Memref.isWhole_whole _) s2M (Memref.isWhole_whole _) cc0_scratch2 cc0_scratch3

variable (T1 : Buf (Elt F) (arg1.view.loc (c : Thread nD τ))) (X2 : Buf (Elt F) (arg2.view.loc (c : Thread nD τ)))
  (X4 : Buf (Elt F) (arg4.view.loc (c : Thread nD τ))) (X5 : Buf (Elt F) (arg5.view.loc (c : Thread nD τ)))
  (X6 : Buf (Elt F) (arg6.view.loc (c : Thread nD τ))) (X7 : Buf (Elt F) (arg7.view.loc (c : Thread nD τ)))
  (X8 : Buf (Elt F) (arg8.view.loc (c : Thread nD τ))) (X9 : Buf (Elt F) (arg9.view.loc (c : Thread nD τ)))
  (fs : Buf (Elt F) (s2M.view.loc (c : Thread nD τ)))

abbrev insP : sProp 𝕄 :=
  iprop((arg1.view.loc (c : Thread nD τ) ↦[arg1.view.set]{fullShare.right} T1)
    ∗ (arg2.view.loc (c : Thread nD τ) ↦[arg2.view.set]{fullShare} X2)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9))

abbrev outP (Y : Buf (Elt F) (arg10.view.loc (c : Thread nD τ))) : sProp 𝕄 := arg10.view.loc (c : Thread nD τ) ↦[arg10.view.set]{fullShare} Y
/-- The previous graph's result, and this graph's second-layer input, from what the point reads. -/
abbrev midRow (i : grid0.Coords) : Vec F S1x1 .f32 :=
  rowOf tilesM (arg1.view.read (Elt F) T1 (ix1 (Ring.bk 8 ((i 0).val - 1)))) (s2Slot fs (Ring.sl 2 ((i 0).val + 1))) (arg7.view.read (Elt F) X7)
    (arg8.view.read (Elt F) X8) (arg9.view.read (Elt F) X9) (tileA XA (Ring.bk 8 ((i 0).val - 1)))
abbrev midS2 (i : grid0.Coords) : Vec F S1x2048x32 .f32 :=
  s2Of (arg2.view.read (Elt F) X2) (arg4.view.read (Elt F) X4) (arg5.view.read (Elt F) X5) (arg6.view.read (Elt F) X6) (graphA XA (Ring.bk 8 (i 0).val))
/-- What such a point leaves. -/
def midPost (i : grid0.Coords) (Y : Buf (Elt F) (arg10.view.loc (c : Thread nD τ))) : sProp 𝕄 :=
  iprop(insP c arg1 arg2 arg4 arg5 arg6 arg7 arg8 arg9 T1 X2 X4 X5 X6 X7 X8 X9
    ∗ (∃ Y', ⌜arg10.view.read (Elt F) Y' = putRow ((i 0).val - 1) (midRow c XA arg1 arg7 arg8 arg9 T1 X7 X8 X9 fs i) (arg10.view.read (Elt F) Y)⌝ ∗ outP c arg10 Y')
    ∗ s2P c (putS2 ((i 0).val % 2) (midS2 c XA arg2 arg4 arg5 arg6 X2 X4 X5 X6 i) fs)
    ∗ slotP c (Ring.sl 3 ((i 0).val + 2)) (adjBuf c XA (Ring.bk 8 ((i 0).val - 1)))
    ∗ slotP c (Ring.sl 3 (i 0).val) (adjBuf c XA (Ring.bk 8 (i 0).val)) ∗ homeP c XA (Ring.bk 8 (i 0).val) ∗ cellP c (Ring.sl 3 (i 0).val)
    ∗ ∃ W, owes (c : Thread nD τ) 0 W)

set_option maxHeartbeats 2000000 in
/-- A point before the last but one: the next graph's transfer is left in flight. -/
theorem midRun (i : grid0.Coords) (hn1 : 1 ≤ (i 0).val) (hn7 : (i 0).val < 7) (Y : Buf (Elt F) (arg10.view.loc (c : Thread nD τ)))
    (fC : Buf (Elt F) ((aslot (Ring.sl 3 ((i 0).val + 1))).view.loc (c : Thread nD τ))) (W) (Q : PUnit → sProp 𝕄) :
    iprop(insP c arg1 arg2 arg4 arg5 arg6 arg7 arg8 arg9 T1 X2 X4 X5 X6 X7 X8 X9 ∗ outP c arg10 Y ∗ s2P c fs
      ∗ slotP c (Ring.sl 3 ((i 0).val + 2)) (adjBuf c XA (Ring.bk 8 ((i 0).val - 1)))
      ∗ flightP c XA (Ring.sl 3 (i 0).val) (Ring.bk 8 (i 0).val)
      ∗ slotP c (Ring.sl 3 ((i 0).val + 1)) fC ∗ cellP c (Ring.sl 3 ((i 0).val + 1))
      ∗ homeP c XA (Ring.bk 8 ((i 0).val + 1))
      ∗ owes (c : Thread nD τ) 0 W
      ∗ (iprop(midPost c XA arg1 arg2 arg4 arg5 arg6 arg7 arg8 arg9 arg10 T1 X2 X4 X5 X6 X7 X8 X9 fs i Y ∗ flightP c XA (Ring.sl 3 ((i 0).val + 1)) (Ring.bk 8 ((i 0).val + 1))) -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  have h0 : ¬ (Scalar.cmpi .ne (Scalar.extui (Scalar.cmpi .eq (BitVec.ofNat 32 (i 0).val) 0#32)) 0#32 = 1#1) := fun h => by have := (cond0_iff i).1 h; omega
  have h2 : k0_cond2 i = 1#1 := (cond2_iff i).2 hn7
  have h3 : ¬ (k0_cond3 i = 1#1) := fun h => by have := (cond3_iff i).1 h; omega
  have h4 : k0_cond4 i = 1#1 := (cond4_iff i).2 ⟨hn1, by omega⟩
  have hg8 : (i 0).val + 1 < 8 := by omega
  have hg7 : (i 0).val < 8 := by omega
  iintro ⟨⟨HT, H2, H4, H5, H6, H7, H8, H9⟩, HO, HS, HA, HF, HC, Hc, Hh, HW, Hk⟩
  sl_exec
  have eL := word_read c arg1 T1 (k0_off6_inb i h4) (Ring.bk 8 ((i 0).val - 1)) (off6_word i hn1)
  by_cases h5 : k0_cond5 (midRun.sl.r c arg1 T1 i h4) = 1#1
  · by_cases h6 : k0_cond6 (midRun.sl.r c arg1 T1 i h4) = 1#1
    · by_cases h7 : k0_cond7 (midRun.sl.r c arg1 T1 i h4) = 1#1
      · sl_exec
        sl_step
        iapply Hk
        isplitl [HT H2 H4 H5 H6 H7 H8 H9 HO HS HA HF_dst HF_src HF HW]
        · unfold midPost
          isplitl [HT H2 H4 H5 H6 H7 H8 H9]
          · isplitl [HT]; · iexact HT
            isplitl [H2]; · iexact H2
            isplitl [H4]; · iexact H4
            isplitl [H5]; · iexact H5
            isplitl [H6]; · iexact H6
            isplitl [H7]; · iexact H7
            isplitl [H8]; · iexact H8
            iexact H9
          isplitl [HO]
          · iexists _
            isplitr
            swap; · iexact HO
            · ipureintro
              exact (row_stored c arg10 Y _ ((i 0).val - 1) (off17_row i hn1) _).trans (congrArg (fun w => putRow ((i 0).val - 1) w _)
                (row4_eq (eL _) (s2_read c fs _ (Ring.sl 2 ((i 0).val + 1)) (ClosedOff.eq (off := k0_off7 i))) (View.readAt_full arg7.view X7 _) (View.readAt_full arg8.view X8 _) (View.readAt_full arg9.view X9 _)
                  (tile_read c XA (Ring.bk 8 ((i 0).val - 1)) _ (Ring.sl 3 ((i 0).val + 2)).val 0 (ClosedOff.eq (off := k0_off8 i))) (tile_read c XA (Ring.bk 8 ((i 0).val - 1)) _ (Ring.sl 3 ((i 0).val + 2)).val 1 (ClosedOff.eq (off := k0_off9 i))) (tile_read c XA (Ring.bk 8 ((i 0).val - 1)) _ (Ring.sl 3 ((i 0).val + 2)).val 2 (ClosedOff.eq (off := k0_off10 i))) (tile_read c XA (Ring.bk 8 ((i 0).val - 1)) _ (Ring.sl 3 ((i 0).val + 2)).val 3 (ClosedOff.eq (off := k0_off11 i))) h5 h6 h7))
          isplitl [HS]
          · iapply (ent_of_eq ((s2_stored c fs _ ((i 0).val % 2) (ClosedOff.eq (off := k0_off16 i)) _).trans (congrArg (fun w => s2P c (putS2 ((i 0).val % 2) w fs))
              (s2d_eq (View.readAt_full arg2.view X2 _) (View.readAt_full arg4.view X4 _) (View.readAt_full arg5.view X5 _) (View.readAt_full arg6.view X6 _)
                (graph_read c XA (Ring.bk 8 (i 0).val) _ (Ring.sl 3 (i 0).val).val (ClosedOff.eq (off := k0_off15 i)))))))
            iexact HS
          isplitl [HA]; · iexact HA
          isplitl [HF_dst]; · iexact HF_dst
          isplitl [HF_src]; · iexact HF_src
          isplitl [HF]; · iexact HF
          iexists _; iexact HW
        iapply (flight_started c XA (Ring.sl 3 ((i 0).val + 1)) (Ring.bk 8 ((i 0).val + 1)) fC); iexact Hc
      · sl_exec
        sl_step
        iapply Hk
        isplitl [HT H2 H4 H5 H6 H7 H8 H9 HO HS HA HF_dst HF_src HF HW]
        · unfold midPost
          isplitl [HT H2 H4 H5 H6 H7 H8 H9]
          · isplitl [HT]; · iexact HT
            isplitl [H2]; · iexact H2
            isplitl [H4]; · iexact H4
            isplitl [H5]; · iexact H5
            isplitl [H6]; · iexact H6
            isplitl [H7]; · iexact H7
            isplitl [H8]; · iexact H8
            iexact H9
          isplitl [HO]
          · iexists _
            isplitr
            swap; · iexact HO
            · ipureintro
              exact (row_stored c arg10 Y _ ((i 0).val - 1) (off26_row i hn1) _).trans (congrArg (fun w => putRow ((i 0).val - 1) w _)
                (row3_eq (eL _) (s2_read c fs _ (Ring.sl 2 ((i 0).val + 1)) (ClosedOff.eq (off := k0_off7 i))) (View.readAt_full arg7.view X7 _) (View.readAt_full arg8.view X8 _) (View.readAt_full arg9.view X9 _)
                  (tile_read c XA (Ring.bk 8 ((i 0).val - 1)) _ (Ring.sl 3 ((i 0).val + 2)).val 0 (ClosedOff.eq (off := k0_off18 i))) (tile_read c XA (Ring.bk 8 ((i 0).val - 1)) _ (Ring.sl 3 ((i 0).val + 2)).val 1 (ClosedOff.eq (off := k0_off19 i))) (tile_read c XA (Ring.bk 8 ((i 0).val - 1)) _ (Ring.sl 3 ((i 0).val + 2)).val 2 (ClosedOff.eq (off := k0_off20 i))) h5 h6 h7))
          isplitl [HS]
          · iapply (ent_of_eq ((s2_stored c fs _ ((i 0).val % 2) (ClosedOff.eq (off := k0_off25 i)) _).trans (congrArg (fun w => s2P c (putS2 ((i 0).val % 2) w fs))
              (s2c_eq (View.readAt_full arg2.view X2 _) (View.readAt_full arg4.view X4 _) (View.readAt_full arg5.view X5 _) (View.readAt_full arg6.view X6 _)
                (graph_read c XA (Ring.bk 8 (i 0).val) _ (Ring.sl 3 (i 0).val).val (ClosedOff.eq (off := k0_off24 i)))))))
            iexact HS
          isplitl [HA]; · iexact HA
          isplitl [HF_dst]; · iexact HF_dst
          isplitl [HF_src]; · iexact HF_src
          isplitl [HF]; · iexact HF
          iexists _; iexact HW
        iapply (flight_started c XA (Ring.sl 3 ((i 0).val + 1)) (Ring.bk 8 ((i 0).val + 1)) fC); iexact Hc
    · sl_exec
      sl_step
      iapply Hk
      isplitl [HT H2 H4 H5 H6 H7 H8 H9 HO HS HA HF_dst HF_src HF HW]
      · unfold midPost
        isplitl [HT H2 H4 H5 H6 H7 H8 H9]
        · isplitl [HT]; · iexact HT
          isplitl [H2]; · iexact H2
          isplitl [H4]; · iexact H4
          isplitl [H5]; · iexact H5
          isplitl [H6]; · iexact H6
          isplitl [H7]; · iexact H7
          isplitl [H8]; · iexact H8
          iexact H9
        isplitl [HO]
        · iexists _
          isplitr
          swap; · iexact HO
          · ipureintro
            exact (row_stored c arg10 Y _ ((i 0).val - 1) (off34_row i hn1) _).trans (congrArg (fun w => putRow ((i 0).val - 1) w _)
              (row2_eq (eL _) (s2_read c fs _ (Ring.sl 2 ((i 0).val + 1)) (ClosedOff.eq (off := k0_off7 i))) (View.readAt_full arg7.view X7 _) (View.readAt_full arg8.view X8 _) (View.readAt_full arg9.view X9 _)
                (tile_read c XA (Ring.bk 8 ((i 0).val - 1)) _ (Ring.sl 3 ((i 0).val + 2)).val 0 (ClosedOff.eq (off := k0_off27 i))) (tile_read c XA (Ring.bk 8 ((i 0).val - 1)) _ (Ring.sl 3 ((i 0).val + 2)).val 1 (ClosedOff.eq (off := k0_off28 i))) h5 h6))
        isplitl [HS]
        · iapply (ent_of_eq ((s2_stored c fs _ ((i 0).val % 2) (ClosedOff.eq (off := k0_off33 i)) _).trans (congrArg (fun w => s2P c (putS2 ((i 0).val % 2) w fs))
            (s2b_eq (View.readAt_full arg2.view X2 _) (View.readAt_full arg4.view X4 _) (View.readAt_full arg5.view X5 _) (View.readAt_full arg6.view X6 _)
              (graph_read c XA (Ring.bk 8 (i 0).val) _ (Ring.sl 3 (i 0).val).val (ClosedOff.eq (off := k0_off32 i)))))))
          iexact HS
        isplitl [HA]; · iexact HA
        isplitl [HF_dst]; · iexact HF_dst
        isplitl [HF_src]; · iexact HF_src
        isplitl [HF]; · iexact HF
        iexists _; iexact HW
      iapply (flight_started c XA (Ring.sl 3 ((i 0).val + 1)) (Ring.bk 8 ((i 0).val + 1)) fC); iexact Hc
  · sl_exec
    sl_step
    iapply Hk
    isplitl [HT H2 H4 H5 H6 H7 H8 H9 HO HS HA HF_dst HF_src HF HW]
    · unfold midPost
      isplitl [HT H2 H4 H5 H6 H7 H8 H9]
      · isplitl [HT]; · iexact HT
        isplitl [H2]; · iexact H2
        isplitl [H4]; · iexact H4
        isplitl [H5]; · iexact H5
        isplitl [H6]; · iexact H6
        isplitl [H7]; · iexact H7
        isplitl [H8]; · iexact H8
        iexact H9
      isplitl [HO]
      · iexists _
        isplitr
        swap; · iexact HO
        · ipureintro
          exact (row_stored c arg10 Y _ ((i 0).val - 1) (off41_row i hn1) _).trans (congrArg (fun w => putRow ((i 0).val - 1) w _)
            (row1_eq (eL _) (s2_read c fs _ (Ring.sl 2 ((i 0).val + 1)) (ClosedOff.eq (off := k0_off7 i))) (View.readAt_full arg7.view X7 _) (View.readAt_full arg8.view X8 _) (View.readAt_full arg9.view X9 _)
              (tile_read c XA (Ring.bk 8 ((i 0).val - 1)) _ (Ring.sl 3 ((i 0).val + 2)).val 0 (ClosedOff.eq (off := k0_off35 i))) h5))
      isplitl [HS]
      · iapply (ent_of_eq ((s2_stored c fs _ ((i 0).val % 2) (ClosedOff.eq (off := k0_off40 i)) _).trans (congrArg (fun w => s2P c (putS2 ((i 0).val % 2) w fs))
          (s2a_eq (View.readAt_full arg2.view X2 _) (View.readAt_full arg4.view X4 _) (View.readAt_full arg5.view X5 _) (View.readAt_full arg6.view X6 _)
            (graph_read c XA (Ring.bk 8 (i 0).val) _ (Ring.sl 3 (i 0).val).val (ClosedOff.eq (off := k0_off39 i)))))))
        iexact HS
      isplitl [HA]; · iexact HA
      isplitl [HF_dst]; · iexact HF_dst
      isplitl [HF_src]; · iexact HF_src
      isplitl [HF]; · iexact HF
      iexists _; iexact HW
    iapply (flight_started c XA (Ring.sl 3 ((i 0).val + 1)) (Ring.bk 8 ((i 0).val + 1)) fC); iexact Hc

set_option maxHeartbeats 2000000 in
/-- The last but one point: nothing more to start. -/
theorem midRun7 (i : grid0.Coords) (hn1 : 1 ≤ (i 0).val) (hn7 : (i 0).val = 7) (Y : Buf (Elt F) (arg10.view.loc (c : Thread nD τ))) (W) (Q : PUnit → sProp 𝕄) :
    iprop(insP c arg1 arg2 arg4 arg5 arg6 arg7 arg8 arg9 T1 X2 X4 X5 X6 X7 X8 X9 ∗ outP c arg10 Y ∗ s2P c fs
      ∗ slotP c (Ring.sl 3 ((i 0).val + 2)) (adjBuf c XA (Ring.bk 8 ((i 0).val - 1)))
      ∗ flightP c XA (Ring.sl 3 (i 0).val) (Ring.bk 8 (i 0).val)
      ∗ owes (c : Thread nD τ) 0 W
      ∗ (iprop(midPost c XA arg1 arg2 arg4 arg5 arg6 arg7 arg8 arg9 arg10 T1 X2 X4 X5 X6 X7 X8 X9 fs i Y) -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  have h0 : ¬ (Scalar.cmpi .ne (Scalar.extui (Scalar.cmpi .eq (BitVec.ofNat 32 (i 0).val) 0#32)) 0#32 = 1#1) := fun h => by have := (cond0_iff i).1 h; omega
  have h2 : ¬ (k0_cond2 i = 1#1) := fun h => by have := (cond2_iff i).1 h; omega
  have h3 : ¬ (k0_cond3 i = 1#1) := fun h => by have := (cond3_iff i).1 h; omega
  have h4 : k0_cond4 i = 1#1 := (cond4_iff i).2 ⟨hn1, by omega⟩
  have hg7 : (i 0).val < 8 := by omega
  iintro ⟨⟨HT, H2, H4, H5, H6, H7, H8, H9⟩, HO, HS, HA, HF, HW, Hk⟩
  sl_exec
  have eL := word_read c arg1 T1 (k0_off6_inb i h4) (Ring.bk 8 ((i 0).val - 1)) (off6_word i hn1)
  by_cases h5 : k0_cond5 (midRun7.sl.r c arg1 T1 i h4) = 1#1
  · by_cases h6 : k0_cond6 (midRun7.sl.r c arg1 T1 i h4) = 1#1
    · by_cases h7 : k0_cond7 (midRun7.sl.r c arg1 T1 i h4) = 1#1
      · sl_exec
        sl_step
        iapply Hk
        unfold midPost
        isplitl [HT H2 H4 H5 H6 H7 H8 H9]
        · isplitl [HT]; · iexact HT
          isplitl [H2]; · iexact H2
          isplitl [H4]; · iexact H4
          isplitl [H5]; · iexact H5
          isplitl [H6]; · iexact H6
          isplitl [H7]; · iexact H7
          isplitl [H8]; · iexact H8
          iexact H9
        isplitl [HO]
        · iexists _
          isplitr
          swap; · iexact HO
          · ipureintro
            exact (row_stored c arg10 Y _ ((i 0).val - 1) (off17_row i hn1) _).trans (congrArg (fun w => putRow ((i 0).val - 1) w _)
              (row4_eq (eL _) (s2_read c fs _ (Ring.sl 2 ((i 0).val + 1)) (ClosedOff.eq (off := k0_off7 i))) (View.readAt_full arg7.view X7 _) (View.readAt_full arg8.view X8 _) (View.readAt_full arg9.view X9 _)
                (tile_read c XA (Ring.bk 8 ((i 0).val - 1)) _ (Ring.sl 3 ((i 0).val + 2)).val 0 (ClosedOff.eq (off := k0_off8 i))) (tile_read c XA (Ring.bk 8 ((i 0).val - 1)) _ (Ring.sl 3 ((i 0).val + 2)).val 1 (ClosedOff.eq (off := k0_off9 i))) (tile_read c XA (Ring.bk 8 ((i 0).val - 1)) _ (Ring.sl 3 ((i 0).val + 2)).val 2 (ClosedOff.eq (off := k0_off10 i))) (tile_read c XA (Ring.bk 8 ((i 0).val - 1)) _ (Ring.sl 3 ((i 0).val + 2)).val 3 (ClosedOff.eq (off := k0_off11 i))) h5 h6 h7))
        isplitl [HS]
        · iapply (ent_of_eq ((s2_stored c fs _ ((i 0).val % 2) (ClosedOff.eq (off := k0_off16 i)) _).trans (congrArg (fun w => s2P c (putS2 ((i 0).val % 2) w fs))
            (s2d_eq (View.readAt_full arg2.view X2 _) (View.readAt_full arg4.view X4 _) (View.readAt_full arg5.view X5 _) (View.readAt_full arg6.view X6 _)
              (graph_read c XA (Ring.bk 8 (i 0).val) _ (Ring.sl 3 (i 0).val).val (ClosedOff.eq (off := k0_off15 i)))))))
          iexact HS
        isplitl [HA]; · iexact HA
        isplitl [HF_dst]; · iexact HF_dst
        isplitl [HF_src]; · iexact HF_src
        isplitl [HF]; · iexact HF
        iexists _; iexact HW
      · sl_exec
        sl_step
        iapply Hk
        unfold midPost
        isplitl [HT H2 H4 H5 H6 H7 H8 H9]
        · isplitl [HT]; · iexact HT
          isplitl [H2]; · iexact H2
          isplitl [H4]; · iexact H4
          isplitl [H5]; · iexact H5
          isplitl [H6]; · iexact H6
          isplitl [H7]; · iexact H7
          isplitl [H8]; · iexact H8
          iexact H9
        isplitl [HO]
        · iexists _
          isplitr
          swap; · iexact HO
          · ipureintro
            exact (row_stored c arg10 Y _ ((i 0).val - 1) (off26_row i hn1) _).trans (congrArg (fun w => putRow ((i 0).val - 1) w _)
              (row3_eq (eL _) (s2_read c fs _ (Ring.sl 2 ((i 0).val + 1)) (ClosedOff.eq (off := k0_off7 i))) (View.readAt_full arg7.view X7 _) (View.readAt_full arg8.view X8 _) (View.readAt_full arg9.view X9 _)
                (tile_read c XA (Ring.bk 8 ((i 0).val - 1)) _ (Ring.sl 3 ((i 0).val + 2)).val 0 (ClosedOff.eq (off := k0_off18 i))) (tile_read c XA (Ring.bk 8 ((i 0).val - 1)) _ (Ring.sl 3 ((i 0).val + 2)).val 1 (ClosedOff.eq (off := k0_off19 i))) (tile_read c XA (Ring.bk 8 ((i 0).val - 1)) _ (Ring.sl 3 ((i 0).val + 2)).val 2 (ClosedOff.eq (off := k0_off20 i))) h5 h6 h7))
        isplitl [HS]
        · iapply (ent_of_eq ((s2_stored c fs _ ((i 0).val % 2) (ClosedOff.eq (off := k0_off25 i)) _).trans (congrArg (fun w => s2P c (putS2 ((i 0).val % 2) w fs))
            (s2c_eq (View.readAt_full arg2.view X2 _) (View.readAt_full arg4.view X4 _) (View.readAt_full arg5.view X5 _) (View.readAt_full arg6.view X6 _)
              (graph_read c XA (Ring.bk 8 (i 0).val) _ (Ring.sl 3 (i 0).val).val (ClosedOff.eq (off := k0_off24 i)))))))
          iexact HS
        isplitl [HA]; · iexact HA
        isplitl [HF_dst]; · iexact HF_dst
        isplitl [HF_src]; · iexact HF_src
        isplitl [HF]; · iexact HF
        iexists _; iexact HW
    · sl_exec
      sl_step
      iapply Hk
      unfold midPost
      isplitl [HT H2 H4 H5 H6 H7 H8 H9]
      · isplitl [HT]; · iexact HT
        isplitl [H2]; · iexact H2
        isplitl [H4]; · iexact H4
        isplitl [H5]; · iexact H5
        isplitl [H6]; · iexact H6
        isplitl [H7]; · iexact H7
        isplitl [H8]; · iexact H8
        iexact H9
      isplitl [HO]
      · iexists _
        isplitr
        swap; · iexact HO
        · ipureintro
          exact (row_stored c arg10 Y _ ((i 0).val - 1) (off34_row i hn1) _).trans (congrArg (fun w => putRow ((i 0).val - 1) w _)
            (row2_eq (eL _) (s2_read c fs _ (Ring.sl 2 ((i 0).val + 1)) (ClosedOff.eq (off := k0_off7 i))) (View.readAt_full arg7.view X7 _) (View.readAt_full arg8.view X8 _) (View.readAt_full arg9.view X9 _)
              (tile_read c XA (Ring.bk 8 ((i 0).val - 1)) _ (Ring.sl 3 ((i 0).val + 2)).val 0 (ClosedOff.eq (off := k0_off27 i))) (tile_read c XA (Ring.bk 8 ((i 0).val - 1)) _ (Ring.sl 3 ((i 0).val + 2)).val 1 (ClosedOff.eq (off := k0_off28 i))) h5 h6))
      isplitl [HS]
      · iapply (ent_of_eq ((s2_stored c fs _ ((i 0).val % 2) (ClosedOff.eq (off := k0_off33 i)) _).trans (congrArg (fun w => s2P c (putS2 ((i 0).val % 2) w fs))
          (s2b_eq (View.readAt_full arg2.view X2 _) (View.readAt_full arg4.view X4 _) (View.readAt_full arg5.view X5 _) (View.readAt_full arg6.view X6 _)
            (graph_read c XA (Ring.bk 8 (i 0).val) _ (Ring.sl 3 (i 0).val).val (ClosedOff.eq (off := k0_off32 i)))))))
        iexact HS
      isplitl [HA]; · iexact HA
      isplitl [HF_dst]; · iexact HF_dst
      isplitl [HF_src]; · iexact HF_src
      isplitl [HF]; · iexact HF
      iexists _; iexact HW
  · sl_exec
    sl_step
    iapply Hk
    unfold midPost
    isplitl [HT H2 H4 H5 H6 H7 H8 H9]
    · isplitl [HT]; · iexact HT
      isplitl [H2]; · iexact H2
      isplitl [H4]; · iexact H4
      isplitl [H5]; · iexact H5
      isplitl [H6]; · iexact H6
      isplitl [H7]; · iexact H7
      isplitl [H8]; · iexact H8
      iexact H9
    isplitl [HO]
    · iexists _
      isplitr
      swap; · iexact HO
      · ipureintro
        exact (row_stored c arg10 Y _ ((i 0).val - 1) (off41_row i hn1) _).trans (congrArg (fun w => putRow ((i 0).val - 1) w _)
          (row1_eq (eL _) (s2_read c fs _ (Ring.sl 2 ((i 0).val + 1)) (ClosedOff.eq (off := k0_off7 i))) (View.readAt_full arg7.view X7 _) (View.readAt_full arg8.view X8 _) (View.readAt_full arg9.view X9 _)
            (tile_read c XA (Ring.bk 8 ((i 0).val - 1)) _ (Ring.sl 3 ((i 0).val + 2)).val 0 (ClosedOff.eq (off := k0_off35 i))) h5))
    isplitl [HS]
    · iapply (ent_of_eq ((s2_stored c fs _ ((i 0).val % 2) (ClosedOff.eq (off := k0_off40 i)) _).trans (congrArg (fun w => s2P c (putS2 ((i 0).val % 2) w fs))
        (s2a_eq (View.readAt_full arg2.view X2 _) (View.readAt_full arg4.view X4 _) (View.readAt_full arg5.view X5 _) (View.readAt_full arg6.view X6 _)
          (graph_read c XA (Ring.bk 8 (i 0).val) _ (Ring.sl 3 (i 0).val).val (ClosedOff.eq (off := k0_off39 i)))))))
      iexact HS
    isplitl [HA]; · iexact HA
    isplitl [HF_dst]; · iexact HF_dst
    isplitl [HF_src]; · iexact HF_src
    isplitl [HF]; · iexact HF
    iexists _; iexact HW

end Body
end Cert.Proof.Gcn
end
-- ==== Proof.First.lean ====
/-
  The first grid point: it starts the first graph's four row chunks and the second graph, and works through the
  first graph chunk by chunk as the chunks arrive.
-/
module

public import proofs.«01_k».proof.Proof.Mid

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-! ## The first graph's second-layer input, by chunks -/

/-- One chunk of 512 rows. -/
def s2Chunk (x : Vec F S1x2048x128 .f32) (w1 : Vec F S128x64 .f32) (b1 : Vec F S1x64 .f32) (w2 : Vec F S64x32 .f32)
    (t : Vec F S1x512x2048 .f32) : FVec F S1x512x32 .f32 := k0_pay37 (k0_pay34 x w1) t b1 w2
/-- All rows, each from its chunk. -/
def s2Of0 (x : Vec F S1x2048x128 .f32) (w1 : Vec F S128x64 .f32) (b1 : Vec F S1x64 .f32) (w2 : Vec F S64x32 .f32)
    (A : ℕ → Vec F S1x512x2048 .f32) : FVec F S1x2048x32 .f32 :=
  fun y => s2Chunk x w1 b1 w2 (A ((y 1).val / 512)) (ix3 (0 : Fin 1) (Fin.ofNat 512 (y 1).val) (y 2 : Fin 32))

/-- Four stores of a chunk each replace slot 0. -/
theorem s2_chunks_view {κ : Kind} {sp : Space} (v : View sig κ sp S2x2048x32 .f32) (f : v.ty.Contents (Elt F))
    {x : Vec F S1x2048x128 .f32} {w1 : Vec F S128x64 .f32} {b1 : Vec F S1x64 .f32} {w2 : Vec F S64x32 .f32} {A : ℕ → Vec F S1x512x2048 .f32}
    {p0 p1 p2 p3 : Vec F S1x512x32 .f32} (h0 : p0 = s2Chunk x w1 b1 w2 (A 0)) (h1 : p1 = s2Chunk x w1 b1 w2 (A 1)) (h2 : p2 = s2Chunk x w1 b1 w2 (A 2)) (h3 : p3 = s2Chunk x w1 b1 w2 (A 3))
    (i0 i1 i2 i3) :
    v.read (Elt F) (v.writes (Elt F) f [⟨Rect.unit (s := S2x2048x32) ![0, 1536, 0] S1x512x32.size i3, p3⟩, ⟨Rect.unit (s := S2x2048x32) ![0, 1024, 0] S1x512x32.size i2, p2⟩,
      ⟨Rect.unit (s := S2x2048x32) ![0, 512, 0] S1x512x32.size i1, p1⟩, ⟨Rect.unit (s := S2x2048x32) ![0, 0, 0] S1x512x32.size i0, p0⟩])
      = putS2 0 (s2Of0 x w1 b1 w2 A) (v.read (Elt F) f) := by
  funext y
  have hy1 : (y 1).val < 2048 := (y 1).isLt
  have hy2 : (y 2).val < 32 := (y 2).isLt
  have hit : ∀ (k : ℕ) (p : Vec F S1x512x32 .f32), p = s2Chunk x w1 b1 w2 (A k) → (y 0).val = 0 → 512 * k ≤ (y 1).val → (y 1).val < 512 * k + 512 →
      ∀ z : S1x512x32.Idx, (z 1).val = (y 1).val - 512 * k → (z 2).val = (y 2).val - 0 → p z = putS2 0 (s2Of0 x w1 b1 w2 A) (v.read (Elt F) f) y := by
    intro k p hp h0 ha hb z hz1 hz2
    subst hp
    unfold putS2; rw [if_pos h0]
    have e : (y 1).val / 512 = k := by omega
    have hz0 : (z 0).val < 1 := (z 0).isLt
    show _ = s2Chunk x w1 b1 w2 (A ((y 1).val / 512)) _
    rw [e]; congr 1
    funext a; apply Fin.ext
    match a with
    | ⟨0, _⟩ => show (z 0).val = 0; omega
    | ⟨1, _⟩ => show (z 1).val = (y 1).val % 512; omega
    | ⟨2, _⟩ => show (z 2).val = (y 2).val; omega
  have far : ∀ (k : ℕ), ¬ ((y 0).val = 0 ∧ 512 * k ≤ (y 1).val ∧ (y 1).val < 512 * k + 512) →
      ¬ (∀ a, (![0, 512 * k, 0] : Fin 3 → ℕ) a ≤ (y a).val ∧ (y a).val < (![0, 512 * k, 0] : Fin 3 → ℕ) a + S1x512x32.size a) := by
    intro k hn H
    have a0 : 0 ≤ (y 0).val ∧ (y 0).val < 0 + 1 := H 0
    have a1 : 512 * k ≤ (y 1).val ∧ (y 1).val < 512 * k + 512 := H 1
    exact hn ⟨by omega, a1⟩
  have near : ∀ (k : ℕ), (y 0).val = 0 ∧ 512 * k ≤ (y 1).val ∧ (y 1).val < 512 * k + 512 →
      (∀ a, (![0, 512 * k, 0] : Fin 3 → ℕ) a ≤ (y a).val ∧ (y a).val < (![0, 512 * k, 0] : Fin 3 → ℕ) a + S1x512x32.size a) := by
    intro k hn a
    match a with
    | ⟨0, _⟩ => show 0 ≤ (y 0).val ∧ (y 0).val < 0 + 1; omega
    | ⟨1, _⟩ => exact hn.2
    | ⟨2, _⟩ => show 0 ≤ (y 2).val ∧ (y 2).val < 0 + 32; omega
  refine Eq.trans (View.read_writes_cons_unit (Val := Elt F) v f i3 p3 _ y rfl) ?_
  by_cases c3 : (y 0).val = 0 ∧ 512 * 3 ≤ (y 1).val ∧ (y 1).val < 512 * 3 + 512
  · rw [dif_pos (near 3 c3)]; exact hit 3 p3 h3 c3.1 c3.2.1 c3.2.2 _ rfl rfl
  rw [dif_neg (far 3 c3)]
  refine Eq.trans (View.read_writes_cons_unit (Val := Elt F) v f i2 p2 _ y rfl) ?_
  by_cases c2 : (y 0).val = 0 ∧ 512 * 2 ≤ (y 1).val ∧ (y 1).val < 512 * 2 + 512
  · rw [dif_pos (near 2 c2)]; exact hit 2 p2 h2 c2.1 c2.2.1 c2.2.2 _ rfl rfl
  rw [dif_neg (far 2 c2)]
  refine Eq.trans (View.read_writes_cons_unit (Val := Elt F) v f i1 p1 _ y rfl) ?_
  by_cases c1 : (y 0).val = 0 ∧ 512 * 1 ≤ (y 1).val ∧ (y 1).val < 512 * 1 + 512
  · rw [dif_pos (near 1 c1)]; exact hit 1 p1 h1 c1.1 c1.2.1 c1.2.2 _ rfl rfl
  rw [dif_neg (far 1 c1)]
  refine Eq.trans (View.read_writes_cons_unit (Val := Elt F) v f i0 p0 _ y rfl) ?_
  by_cases c0 : (y 0).val = 0 ∧ 512 * 0 ≤ (y 1).val ∧ (y 1).val < 512 * 0 + 512
  · rw [dif_pos (near 0 c0)]; exact hit 0 p0 h0 c0.1 c0.2.1 c0.2.2 _ rfl rfl
  rw [dif_neg (far 0 c0)]
  unfold putS2
  rw [if_neg (fun h => by omega)]
  rfl

/-! ## The chunks -/

section Chunks
variable (c : Dev nD)

/-- Where a chunk of the first buffer slot puts its entries. -/
theorem ach_emb (q : Fin 4) (p : Fin 512) (r : Fin 2048) : (ach q).view.emb (ix2 p r) = ix3 (0 : Fin 3) (Fin.ofNat 2048 (512 * q.val + p.val)) r := by
  have e := congrArg (fun z => (Rect.unit (s := S3x2048x2048) (chOff q) S1x512x2048.size (chOffB_inb q)).emb z)
    (reshapeEquiv_ix2_1ab (a := 512) (b := 2048) squeezes_S1x512x2048_S512x2048.numel_eq p r)
  refine Eq.trans e ?_
  have := q.isLt; have := p.isLt
  funext a; apply Fin.ext
  match a with
  | ⟨0, _⟩ => show 0 + 1 * 0 = 0; omega
  | ⟨1, _⟩ => show 512 * q.val + 1 * p.val = (512 * q.val + p.val) % 2048; omega
  | ⟨2, _⟩ => show 0 + 1 * r.val = r.val; omega
/-- Where a chunk of graph 0 takes its entries. -/
theorem gch_emb (q : Fin 4) (p : Fin 512) (r : Fin 2048) : (gch q).view.emb (ix2 p r) = ix3 (0 : Fin 8) (Fin.ofNat 2048 (512 * q.val + p.val)) r := by
  have e := congrArg (fun z => (Rect.unit (s := S8x2048x2048) (chOff q) S1x512x2048.size (chOffA_inb q)).emb z)
    (reshapeEquiv_ix2_1ab (a := 512) (b := 2048) squeezes_S1x512x2048_S512x2048.numel_eq p r)
  refine Eq.trans e ?_
  have := q.isLt; have := p.isLt
  funext a; apply Fin.ext
  match a with
  | ⟨0, _⟩ => show 0 + 1 * 0 = 0; omega
  | ⟨1, _⟩ => show 512 * q.val + 1 * p.val = (512 * q.val + p.val) % 2048; omega
  | ⟨2, _⟩ => show 0 + 1 * r.val = r.val; omega

/-- A chunk of the first slot, read. -/
theorem ach_read (f : Buf (Elt F) (bufM.view.loc (c : Thread nD τ))) (q : Fin 4) (p : Fin 512) (r : Fin 2048) :
    (ach q).view.read (Elt F) f (ix2 p r) = (f : S3x2048x2048.Idx → Elt F .f32) (ix3 (0 : Fin 3) (Fin.ofNat 2048 (512 * q.val + p.val)) r) := by
  exact congrArg (f : S3x2048x2048.Idx → Elt F .f32) (ach_emb q p r)
/-- A chunk of graph 0, read. -/
theorem gch_read (XA : Buf (Elt F) (adjM.view.loc (c : Thread nD τ))) (q : Fin 4) (p : Fin 512) (r : Fin 2048) :
    (gch q).view.read (Elt F) XA (ix2 p r) = (XA : S8x2048x2048.Idx → Elt F .f32) (ix3 (0 : Fin 8) (Fin.ofNat 2048 (512 * q.val + p.val)) r) := by
  exact congrArg (XA : S8x2048x2048.Idx → Elt F .f32) (gch_emb q p r)

/-- What a chunk's transfer leaves. -/
abbrev landedQ (XA : Buf (Elt F) (adjM.view.loc (c : Thread nD τ))) (q : Fin 4) (f : Buf (Elt F) ((ach q).view.loc (c : Thread nD τ))) : Buf (Elt F) ((ach q).view.loc (c : Thread nD τ)) :=
  (ach q).view.writes (Elt F) f [⟨Rect.whole S512x2048, ReadAs.same.apply ((gch q).view.read (Elt F) XA)⟩]
/-- A chunk that has arrived reads as the rows of graph 0. -/
theorem landedQ_read (XA : Buf (Elt F) (adjM.view.loc (c : Thread nD τ))) (q : Fin 4) (f : Buf (Elt F) ((ach q).view.loc (c : Thread nD τ))) (p : Fin 512) (r : Fin 2048) :
    (ach q).view.read (Elt F) (landedQ c XA q f) (ix2 p r) = (XA : S8x2048x2048.Idx → Elt F .f32) (ix3 (0 : Fin 8) (Fin.ofNat 2048 (512 * q.val + p.val)) r) :=
  (congrFun (View.read_writes_whole (Val := Elt F) (ach q).view f (ReadAs.same.apply ((gch q).view.read (Elt F) XA))) (ix2 p r)).trans (gch_read c XA q p r)
/-- The same, as an equation of whole chunks. -/
theorem landedQ_eq (XA : Buf (Elt F) (adjM.view.loc (c : Thread nD τ))) (q : Fin 4) (f : Buf (Elt F) ((ach q).view.loc (c : Thread nD τ))) :
    chunkP c q (landedQ c XA q f) = (chunkP c q (adjBuf c XA 0) : sProp 𝕄) := by
  refine pointsTo_congr (agree_of_read (ach q).view _ _ fun x => ?_)
  obtain ⟨p, r, rfl⟩ : ∃ p r, x = ix2 p r := ⟨x 0, x 1, eq_ix2 x⟩
  exact (landedQ_read c XA q f p r).trans (ach_read c (adjBuf c XA 0) q p r).symm
/-- A load of a chunk that has arrived reads the first graph's rows. -/
theorem chunk_load (XA : Buf (Elt F) (adjM.view.loc (c : Thread nD τ))) (q : Fin 4) (f : Buf (Elt F) (bufM.view.loc (c : Thread nD τ)))
    {off : Fin 3 → ℕ} (inb : ∀ a, off a + S1x512x2048.size a ≤ S3x2048x2048.size a) (h : off = chOff q)
    (hf : ∀ (p : Fin 512) (r : Fin 2048), (f : S3x2048x2048.Idx → Elt F .f32) (ix3 (0 : Fin 3) (Fin.ofNat 2048 (512 * q.val + p.val)) r)
      = (XA : S8x2048x2048.Idx → Elt F .f32) (ix3 (0 : Fin 8) (Fin.ofNat 2048 (512 * q.val + p.val)) r)) :
    bufM.view.readAt (Elt F) (Rect.unit (s := S3x2048x2048) off S1x512x2048.size inb).toLoadRect f = tileA XA 0 q.val := by
  subst h
  funext y
  have hy : (y 1).val < 512 := (y 1).isLt
  have hy0 : (y 0).val < 1 := (y 0).isLt
  have := q.isLt
  refine Eq.trans ?_ (hf (y 1) (y 2))
  refine congrArg (f : S3x2048x2048.Idx → Elt F .f32) ?_
  funext a; apply Fin.ext
  match a with
  | ⟨0, _⟩ => show 0 + 1 * (y 0).val = 0; omega
  | ⟨1, _⟩ => show 512 * q.val + 1 * (y 1).val = (512 * q.val + (y 1).val) % 2048; omega
  | ⟨2, _⟩ => show 0 + 1 * (y 2).val = (y 2).val; omega

/-- Four stores of 512 rows make the whole hidden layer of graph 0. -/
theorem s2_chunks (f : Buf (Elt F) (s2M.view.loc (c : Thread nD τ)))
    {x : Vec F S1x2048x128 .f32} {w1 : Vec F S128x64 .f32} {b1 : Vec F S1x64 .f32} {w2 : Vec F S64x32 .f32} {A : ℕ → Vec F S1x512x2048 .f32}
    {p0 p1 p2 p3 : Vec F S1x512x32 .f32} (h0 : p0 = s2Chunk x w1 b1 w2 (A 0)) (h1 : p1 = s2Chunk x w1 b1 w2 (A 1)) (h2 : p2 = s2Chunk x w1 b1 w2 (A 2)) (h3 : p3 = s2Chunk x w1 b1 w2 (A 3))
    (i0 i1 i2 i3) :
    s2P c (s2M.view.writes (Elt F) f [⟨Rect.unit (s := S2x2048x32) ![0, 1536, 0] S1x512x32.size i3, p3⟩, ⟨Rect.unit (s := S2x2048x32) ![0, 1024, 0] S1x512x32.size i2, p2⟩,
      ⟨Rect.unit (s := S2x2048x32) ![0, 512, 0] S1x512x32.size i1, p1⟩, ⟨Rect.unit (s := S2x2048x32) ![0, 0, 0] S1x512x32.size i0, p0⟩])
      = (s2P c (putS2 0 (s2Of0 x w1 b1 w2 A) f) : sProp 𝕄) :=
  pointsTo_congr (agree_of_read s2M.view _ _ fun y => congrFun (s2_chunks_view s2M.view f h0 h1 h2 h3 i0 i1 i2 i3) y)

/-- A chunk of the hidden layer depends on its operands alone. -/
theorem chunk_eq {x x' : Vec F S1x2048x128 .f32} {w1 w1' : Vec F S128x64 .f32} {b1 b1' : Vec F S1x64 .f32} {w2 w2' : Vec F S64x32 .f32} {t t' : Vec F S1x512x2048 .f32}
    (hx : x = x') (hw : w1 = w1') (hb : b1 = b1') (hv : w2 = w2') (ht : t = t') : k0_pay37 (k0_pay34 x w1) t b1 w2 = s2Chunk x' w1' b1' w2' t' := by
  subst hx hw hb hv ht; rfl

end Chunks

section First
variable (c : Dev nD) (XA : Buf (Elt F) (adjM.view.loc (c : Thread nD τ)))
  (arg1 : Memref sig .tc .smem S8 .i32) (harg1 : arg1.IsWhole) (arg2 : Memref sig .tc .vmem S1x2048x128 .f32) (harg2 : arg2.IsWhole)
  (arg4 : Memref sig .tc .vmem S128x64 .f32) (harg4 : arg4.IsWhole) (arg5 : Memref sig .tc .vmem S1x64 .f32) (harg5 : arg5.IsWhole)
  (arg6 : Memref sig .tc .vmem S64x32 .f32) (harg6 : arg6.IsWhole) (arg7 : Memref sig .tc .vmem S1x32 .f32) (harg7 : arg7.IsWhole)
  (arg8 : Memref sig .tc .vmem S32x1 .f32) (harg8 : arg8.IsWhole) (arg9 : Memref sig .tc .vmem S1x1 .f32) (harg9 : arg9.IsWhole)
  (arg10 : Memref sig .tc .vmem S8x1 .f32) (harg10 : arg10.IsWhole)

variable (T1 : Buf (Elt F) (arg1.view.loc (c : Thread nD τ))) (X2 : Buf (Elt F) (arg2.view.loc (c : Thread nD τ)))
  (X4 : Buf (Elt F) (arg4.view.loc (c : Thread nD τ))) (X5 : Buf (Elt F) (arg5.view.loc (c : Thread nD τ)))
  (X6 : Buf (Elt F) (arg6.view.loc (c : Thread nD τ))) (X7 : Buf (Elt F) (arg7.view.loc (c : Thread nD τ)))
  (X8 : Buf (Elt F) (arg8.view.loc (c : Thread nD τ))) (X9 : Buf (Elt F) (arg9.view.loc (c : Thread nD τ)))
  (fs : Buf (Elt F) (s2M.view.loc (c : Thread nD τ)))

set_option maxHeartbeats 2000000 in
/-- The first point. -/
theorem firstRun (i : grid0.Coords) (hn0 : (i 0).val = 0)
    (Y : Buf (Elt F) (arg10.view.loc (c : Thread nD τ))) (fq : Buf (Elt F) (bufM.view.loc (c : Thread nD τ))) (f1 : Buf (Elt F) ((aslot (Ring.sl 3 ((i 0).val + 1))).view.loc (c : Thread nD τ))) (W) (Q : PUnit → sProp 𝕄) :
    iprop(insP c arg1 arg2 arg4 arg5 arg6 arg7 arg8 arg9 T1 X2 X4 X5 X6 X7 X8 X9 ∗ outP c arg10 Y ∗ s2P c fs
      ∗ (chunkP c 0 fq ∗ chunkP c 1 fq ∗ chunkP c 2 fq ∗ chunkP c 3 fq)
      ∗ (hchunkP c XA 0 ∗ hchunkP c XA 1 ∗ hchunkP c XA 2 ∗ hchunkP c XA 3)
      ∗ (qcellP c 0 ∗ qcellP c 1 ∗ qcellP c 2 ∗ qcellP c 3)
      ∗ slotP c (Ring.sl 3 ((i 0).val + 1)) f1 ∗ cellP c (Ring.sl 3 ((i 0).val + 1)) ∗ homeP c XA (Ring.bk 8 ((i 0).val + 1)) ∗ owes (c : Thread nD τ) 0 W
      ∗ (iprop(insP c arg1 arg2 arg4 arg5 arg6 arg7 arg8 arg9 T1 X2 X4 X5 X6 X7 X8 X9 ∗ outP c arg10 Y
          ∗ s2P c (putS2 0 (s2Of0 (arg2.view.read (Elt F) X2) (arg4.view.read (Elt F) X4) (arg5.view.read (Elt F) X5) (arg6.view.read (Elt F) X6) (tileA XA 0)) fs)
          ∗ (chunkP c 0 (adjBuf c XA 0) ∗ chunkP c 1 (adjBuf c XA 0) ∗ chunkP c 2 (adjBuf c XA 0) ∗ chunkP c 3 (adjBuf c XA 0))
          ∗ (hchunkP c XA 0 ∗ hchunkP c XA 1 ∗ hchunkP c XA 2 ∗ hchunkP c XA 3)
          ∗ (qcellP c 0 ∗ qcellP c 1 ∗ qcellP c 2 ∗ qcellP c 3)
          ∗ flightP c XA (Ring.sl 3 ((i 0).val + 1)) (Ring.bk 8 ((i 0).val + 1)) ∗ ∃ W, owes (c : Thread nD τ) 0 W) -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  have h0 : (Scalar.cmpi .ne (Scalar.extui (Scalar.cmpi .eq (BitVec.ofNat 32 (i 0).val) 0#32)) 0#32 = 1#1) := (cond0_iff i).2 hn0
  have h2 : k0_cond2 i = 1#1 := (cond2_iff i).2 (by omega)
  have h3 : ¬ (k0_cond3 i = 1#1) := fun h => by have := (cond3_iff i).1 h; omega
  have h4 : ¬ (k0_cond4 i = 1#1) := fun h => by have := (cond4_iff i).1 h; omega
  have hg8 : (i 0).val + 1 < 8 := by omega
  iintro ⟨⟨HT, H2, H4, H5, H6, H7, H8, H9⟩, HO, HS, ⟨Hb0, Hb1, Hb2, Hb3⟩, ⟨Ha0, Ha1, Ha2, Ha3⟩, ⟨Hq0, Hq1, Hq2, Hq3⟩, HC, Hc, Hh, HW, Hk⟩
  sl_exec
  sl_step
  iapply Hk
  isplitl [HT H2 H4 H5 H6 H7 H8 H9]
  · isplitl [HT]; · iexact HT
    isplitl [H2]; · iexact H2
    isplitl [H4]; · iexact H4
    isplitl [H5]; · iexact H5
    isplitl [H6]; · iexact H6
    isplitl [H7]; · iexact H7
    isplitl [H8]; · iexact H8
    iexact H9
  isplitl [HO]; · iexact HO
  isplitl [HS]
  · iapply (ent_of_eq (s2_chunks c fs
      (chunk_eq (View.readAt_full arg2.view X2 _) (View.readAt_full arg4.view X4 _) (View.readAt_full arg5.view X5 _) (View.readAt_full arg6.view X6 _) (chunk_load c XA 0 _ (off := ![0, 0, 0]) _ (by decide) (fun p r => (ach_read c _ 0 p r).symm.trans (landedQ_read c XA 0 _ p r))))
      (chunk_eq (View.readAt_full arg2.view X2 _) (View.readAt_full arg4.view X4 _) (View.readAt_full arg5.view X5 _) (View.readAt_full arg6.view X6 _) (chunk_load c XA 1 _ (off := ![0, 512, 0]) _ (by decide) (fun p r => (ach_read c _ 1 p r).symm.trans (landedQ_read c XA 1 _ p r))))
      (chunk_eq (View.readAt_full arg2.view X2 _) (View.readAt_full arg4.view X4 _) (View.readAt_full arg5.view X5 _) (View.readAt_full arg6.view X6 _) (chunk_load c XA 2 _ (off := ![0, 1024, 0]) _ (by decide) (fun p r => (ach_read c _ 2 p r).symm.trans (landedQ_read c XA 2 _ p r))))
      (chunk_eq (View.readAt_full arg2.view X2 _) (View.readAt_full arg4.view X4 _) (View.readAt_full arg5.view X5 _) (View.readAt_full arg6.view X6 _) (chunk_load c XA 3 _ (off := ![0, 1536, 0]) _ (by decide) (fun p r => (ach_read c _ 3 p r).symm.trans (landedQ_read c XA 3 _ p r))))
      _ _ _ _))
    iexact HS
  isplitl [Hb0 Hb1 Hb2 Hb3]
  · isplitl [Hb0]; · iapply (ent_of_eq (landedQ_eq c XA 0 _)); iexact Hb0
    isplitl [Hb1]; · iapply (ent_of_eq (landedQ_eq c XA 1 _)); iexact Hb1
    isplitl [Hb2]; · iapply (ent_of_eq (landedQ_eq c XA 2 _)); iexact Hb2
    iapply (ent_of_eq (landedQ_eq c XA 3 _)); iexact Hb3
  isplitl [Ha0 Ha1 Ha2 Ha3]
  · isplitl [Ha0]; · iexact Ha0
    isplitl [Ha1]; · iexact Ha1
    isplitl [Ha2]; · iexact Ha2
    iexact Ha3
  isplitl [Hq0 Hq1 Hq2 Hq3]
  · isplitl [Hq0]; · iexact Hq0
    isplitl [Hq1]; · iexact Hq1
    isplitl [Hq2]; · iexact Hq2
    iexact Hq3
  isplitl [Hc]; · iapply (flight_started c XA (Ring.sl 3 ((i 0).val + 1)) (Ring.bk 8 ((i 0).val + 1)) f1); iexact Hc
  iexists _; iexact HW

end First
end Cert.Proof.Gcn
end
-- ==== Proof.Words.lean ====
/-
  The lengths that the precondition admits, 1 to 2048: how many tiles of 512 rows a point sums for such a length, and
  what the last point checks of its loops.
-/
module

public import proofs.«01_k».proof.Proof.Values

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-- A length between 1 and 2048. -/
def LenOK (L : BitVec 32) : Prop := 1 ≤ L.toNat ∧ L.toNat ≤ 2048

/-- The two loops' counts for each length, tried one by one. -/
theorem loops_lit : ∀ n : Fin 2049, (k0_t1_loop (BitVec.ofNat 32 n.val)).OK ∧ (k0_t1_loop (BitVec.ofNat 32 n.val)).trips = (n.val + 511) / 512
    ∧ (k0_t2_loop (BitVec.ofNat 32 n.val)).OK ∧ (k0_t2_loop (BitVec.ofNat 32 n.val)).trips = 0 := by decide +kernel

section
variable {L : BitVec 32} (h : LenOK L)
include h

/-- The loops' counts for a length in range: one trip a tile, and no rest. -/
theorem loops_ok : (k0_t1_loop L).OK ∧ (k0_t1_loop L).trips = (L.toNat + 511) / 512 ∧ (k0_t2_loop L).OK ∧ (k0_t2_loop L).trips = 0 := by
  have e : BitVec.ofNat 32 L.toNat = L := by simp
  have := loops_lit ⟨L.toNat, by have := h.2; omega⟩
  rwa [e] at this
/-- The last loop runs over the tiles that hold a row of the graph, at most four. -/
theorem tilesL_eq : tilesL L = (L.toNat + 511) / 512 := (loops_ok h).2.1
/-- At most four tiles. -/
theorem trips_le : (k0_t1_loop L).trips ≤ 4 := by rw [(loops_ok h).2.1]; have := h.2; omega
/-- The rest loop makes no trip. -/
theorem no_rest (k : Fin (k0_t2_loop L).trips) : False := Nat.not_lt_zero _ (Nat.lt_of_lt_of_eq k.isLt (loops_ok h).2.2.2)
end

/-- Where trip `k` of the last loop reads. -/
theorem off4_lit : ∀ k : Fin 4, (![1, (Scalar.muli (Scf.iv 0#32 1#32 k.val) 512#32).toNat, 0] : Fin 3 → ℕ) = ![1, 512 * k.val, 0] := by decide +kernel
/-- The tile that a trip reads. -/
theorem off4_eq (L : BitVec 32) (k : Fin (k0_t1_loop L).trips) (hk : k.val < 4) : k0_off4 L k = ![1, 512 * k.val, 0] := off4_lit ⟨k.val, hk⟩
/-- A trip's first row, as a word. -/
theorem mul_lit : ∀ k : Fin 4, Scalar.muli (Scf.iv 0#32 1#32 k.val) 512#32 = BitVec.ofNat 32 (512 * k.val) := by decide +kernel

/-- What the last point checks holds of such a length. -/
theorem chk_of_len {L : BitVec 32} (h : LenOK L) (i : grid0.Coords) : k0_chk1 i L := by
  refine ⟨fun _ => (loops_ok h).1, fun k _ => ?_, fun _ => (loops_ok h).2.2.1, fun k _ => (no_rest h k).elim⟩
  have hk : k.val < 4 := Nat.lt_of_lt_of_le k.isLt (trips_le h)
  rw [off4_eq L k hk]
  intro a
  match a with
  | ⟨0, _⟩ => show 1 + 1 ≤ 3; omega
  | ⟨1, _⟩ => show 512 * k.val + 512 ≤ 2048; omega
  | ⟨2, _⟩ => show 0 + 2048 ≤ 2048; omega

end Cert.Proof.Gcn
end
-- ==== Proof.Last.lean ====
/-
  The last grid point: it sums the last graph's tiles in a loop whose bound is the graph's length, and stores the
  last graph's result.
-/
module

public import proofs.«01_k».proof.Proof.Mid
public import proofs.«01_k».proof.Proof.Words

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-- One trip's value is one more tile. -/
theorem trip_value (L : BitVec 32) (v20 : Vec F S1x2048x32 .f32) (b2 : Vec F S1x32 .f32) (A : ℕ → Vec F S1x512x2048 .f32)
    (k : Fin (k0_t1_loop L).trips) (hk : k.val < 4) (t : Vec F S1x512x2048 .f32) (ht : t = A k.val) (b : Vec F S1x32 .f32) (hb : b = b2) :
    k0_pay11 rowIota L v20 k (pool L (k0_pay33 v20) b2 A k.val) t b = pool L (k0_pay33 v20) b2 A (k.val + 1) := by
  subst ht hb
  have e := mul_lit ⟨k.val, hk⟩
  show tileStep L (k0_pay33 v20) b (pool L (k0_pay33 v20) b A k.val) (Scalar.muli (Scf.iv 0#32 1#32 k.val) 512#32) (A k.val) = _
  rw [e]; rfl

/-- The last point stores this value. -/
theorem lastRow_eq {L L' : BitVec 32} {s s' : Vec F S1x2048x32 .f32} {b b' : Vec F S1x32 .f32} {w w' : Vec F S32x1 .f32} {l l' : Vec F S1x1 .f32}
    {A : ℕ → Vec F S1x512x2048 .f32} (hL : L = L') (hs : s = s') (hb : b = b') (hw : w = w') (hl : l = l') :
    k0_pay1 (k0_pay13 L (pool L (k0_pay33 s) b A (k0_t1_loop L).trips) w) l = rowOf tilesL L' s' b' w' l' A := by
  subst hL hs hb hw hl; rfl

instance {L : BitVec 32} [h : Fact (LenOK L)] (k : Fin (k0_t1_loop L).trips) : ClosedOff (k0_off4 L k) :=
  ⟨![(1 : Fin 3).val, 512 * k.val, 0], off4_eq L k (Nat.lt_of_lt_of_le k.isLt (trips_le h.out))⟩

section Last
variable (c : Dev nD) (XA : Buf (Elt F) (adjM.view.loc (c : Thread nD τ)))
  (arg1 : Memref sig .tc .smem S8 .i32) (harg1 : arg1.IsWhole) (arg2 : Memref sig .tc .vmem S1x2048x128 .f32) (harg2 : arg2.IsWhole)
  (arg4 : Memref sig .tc .vmem S128x64 .f32) (harg4 : arg4.IsWhole) (arg5 : Memref sig .tc .vmem S1x64 .f32) (harg5 : arg5.IsWhole)
  (arg6 : Memref sig .tc .vmem S64x32 .f32) (harg6 : arg6.IsWhole) (arg7 : Memref sig .tc .vmem S1x32 .f32) (harg7 : arg7.IsWhole)
  (arg8 : Memref sig .tc .vmem S32x1 .f32) (harg8 : arg8.IsWhole) (arg9 : Memref sig .tc .vmem S1x1 .f32) (harg9 : arg9.IsWhole)
  (arg10 : Memref sig .tc .vmem S8x1 .f32) (harg10 : arg10.IsWhole)

variable (T1 : Buf (Elt F) (arg1.view.loc (c : Thread nD τ))) (X2 : Buf (Elt F) (arg2.view.loc (c : Thread nD τ)))
  (X4 : Buf (Elt F) (arg4.view.loc (c : Thread nD τ))) (X5 : Buf (Elt F) (arg5.view.loc (c : Thread nD τ)))
  (X6 : Buf (Elt F) (arg6.view.loc (c : Thread nD τ))) (X7 : Buf (Elt F) (arg7.view.loc (c : Thread nD τ)))
  (X8 : Buf (Elt F) (arg8.view.loc (c : Thread nD τ))) (X9 : Buf (Elt F) (arg9.view.loc (c : Thread nD τ)))
  (fs : Buf (Elt F) (s2M.view.loc (c : Thread nD τ)))

section Loop
variable (i : grid0.Coords) (h3 : k0_cond3 i = 1#1) (v : BitVec 32) (hw : k0_chk1 i v) (v20 : Vec F S1x2048x32 .f32)

/-- Before trip `k` the sum is over the first `k` tiles. -/
def loopInv (k : ℕ) (acc : FVec F S1x32 .f32) : sProp 𝕄 :=
  iprop(⌜LenOK v⌝ ∗ (arg7.view.loc (c : Thread nD τ) ↦[arg7.view.set]{fullShare} X7) ∗ slotP c 1 (adjBuf c XA 7)
    ∗ ⌜acc = pool v (k0_pay33 v20) (arg7.view.read (Elt F) X7) (tileA XA 7) k⌝)

set_option warn.classDefReducibility false in
/-- The last loop by its invariant. -/
@[sl_loop] def lastLoop :
    LoopInvTy_k0_t1 (F := F) Unit ℕ (UU nD τ) ℕ 𝒱₀ c none Set.univ i arg1 harg1 arg2 harg2 adjM (Memref.isWhole_whole _) arg4 harg4 arg5 harg5 arg6 harg6
      arg7 harg7 arg8 harg8 arg9 harg9 arg10 harg10 bufM (Memref.isWhole_whole _) s2M (Memref.isWhole_whole _) cc0_scratch2 cc0_scratch3 rowIota h3 v hw v20 (k0_pay10 (F := F)) where
  inv := loopInv c XA arg7 X7 v v20
  step k acc := by
    unfold loopInv
    iintro ⟨%hL, H7, HA, %hacc⟩
    haveI : Fact (LenOK v) := ⟨hL⟩
    have hk : k.val < 4 := Nat.lt_of_lt_of_le k.isLt (trips_le hL)
    unfold k0_t1_body
    sl_exec
    sl_step
    isplitr; · ipureintro; exact hL
    isplitl [H7]; · iexact H7
    isplitl [HA]; · iexact HA
    ipureintro
    rw [hacc]
    exact trip_value v v20 _ (tileA XA 7) k hk _ (tile_read c XA 7 _ 1 k.val (off4_eq v k hk)) _ (View.readAt_full arg7.view X7 _)

set_option warn.classDefReducibility false in
/-- The loop over a remainder has no trip. -/
@[sl_loop] def restLoop (init : FVec F S1x32 .f32) :
    LoopInvTy_k0_t2 (F := F) Unit ℕ (UU nD τ) ℕ 𝒱₀ c none Set.univ i arg1 harg1 arg2 harg2 adjM (Memref.isWhole_whole _) arg4 harg4 arg5 harg5 arg6 harg6
      arg7 harg7 arg8 harg8 arg9 harg9 arg10 harg10 bufM (Memref.isWhole_whole _) s2M (Memref.isWhole_whole _) cc0_scratch2 cc0_scratch3 rowIota h3 v hw v20 init where
  inv _ acc := iprop(⌜LenOK v⌝ ∗ ⌜acc = init⌝)
  step k acc := by
    iintro ⟨%hL, %hacc⟩
    exact (no_rest hL k).elim

end Loop

/-- The last graph's result. -/
abbrev lastRow : Vec F S1x1 .f32 :=
  rowOf tilesL (arg1.view.read (Elt F) T1 (ix1 (7 : Fin 8))) (s2Slot fs 1) (arg7.view.read (Elt F) X7)
    (arg8.view.read (Elt F) X8) (arg9.view.read (Elt F) X9) (tileA XA 7)

set_option maxHeartbeats 2000000 in
/-- The last point. -/
theorem lastRun (i : grid0.Coords) (hn8 : (i 0).val = 8) (hL : LenOK (arg1.view.read (Elt F) T1 (ix1 (7 : Fin 8))))
    (Y : Buf (Elt F) (arg10.view.loc (c : Thread nD τ))) (W) (Q : PUnit → sProp 𝕄) :
    iprop(insP c arg1 arg2 arg4 arg5 arg6 arg7 arg8 arg9 T1 X2 X4 X5 X6 X7 X8 X9 ∗ outP c arg10 Y ∗ s2P c fs
      ∗ slotP c 1 (adjBuf c XA 7) ∗ owes (c : Thread nD τ) 0 W
      ∗ (iprop(insP c arg1 arg2 arg4 arg5 arg6 arg7 arg8 arg9 T1 X2 X4 X5 X6 X7 X8 X9
          ∗ (∃ Y', ⌜arg10.view.read (Elt F) Y' = putRow 7 (lastRow c XA arg1 arg7 arg8 arg9 T1 X7 X8 X9 fs) (arg10.view.read (Elt F) Y)⌝ ∗ outP c arg10 Y')
          ∗ s2P c fs ∗ slotP c 1 (adjBuf c XA 7) ∗ ∃ W, owes (c : Thread nD τ) 0 W) -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  have h0 : ¬ (Scalar.cmpi .ne (Scalar.extui (Scalar.cmpi .eq (BitVec.ofNat 32 (i 0).val) 0#32)) 0#32 = 1#1) := fun h => by have := (cond0_iff i).1 h; omega
  have h2 : ¬ (k0_cond2 i = 1#1) := fun h => by have := (cond2_iff i).1 h; omega
  have h3 : k0_cond3 i = 1#1 := (cond3_iff i).2 hn8
  have h4 : ¬ (k0_cond4 i = 1#1) := fun h => by have := (cond4_iff i).1 h; omega
  iintro ⟨⟨HT, H2, H4, H5, H6, H7, H8, H9⟩, HO, HS, HA, HW, Hk⟩
  sl_exec
  have eL : lastRun.sl.r c arg1 T1 = arg1.view.read (Elt F) T1 (ix1 (7 : Fin 8)) := word_read c arg1 T1 _ 7 rfl _
  have hL' : LenOK (lastRun.sl.r c arg1 T1) := by rw [eL]; exact hL
  have hchk : k0_chk1 i (lastRun.sl.r c arg1 T1) := chk_of_len hL' i
  sl_exec
  sl_step
  iapply Hk
  isplitl [HT H2 H4 H5 H6 H7 H8 H9]
  · isplitl [HT]; · iexact HT
    isplitl [H2]; · iexact H2
    isplitl [H4]; · iexact H4
    isplitl [H5]; · iexact H5
    isplitl [H6]; · iexact H6
    isplitl [H7]; · iexact H7
    isplitl [H8]; · iexact H8
    iexact H9
  isplitl [HO]
  · iexists _
    isplitr
    swap; · iexact HO
    · ipureintro
      exact (row_stored c arg10 Y _ 7 rfl _).trans (congrArg (fun w => putRow 7 w _)
        (lastRow_eq eL (s2_read c fs _ 1 rfl) rfl (View.readAt_full arg8.view X8 _) (View.readAt_full arg9.view X9 _)))
  isplitl [HS]; · iexact HS
  isplitl [HA]; · iexact HA
  iexists _; iexact HW

end Last
end Cert.Proof.Gcn
end
-- ==== Proof.Sets.lean ====
/-
  The adjacency array as its eight graphs, the buffer as its three slots, a graph and a slot as their four row chunks:
  the sets of elements, and the assertions split and joined along them.
-/
module

public import proofs.«01_k».proof.Proof.Values

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-! ## Element sets -/

abbrev GS (b : Fin 8) : Finset S8x2048x2048.Idx := (Rect.unit (s := S8x2048x2048) (grpOff b) S1x2048x2048.size (grpOff_inb b)).set
abbrev SS (s : Fin 3) : Finset S3x2048x2048.Idx := (Rect.unit (s := S3x2048x2048) (slotOff s) S1x2048x2048.size (slotOff_inb s)).set
abbrev GC (q : Fin 4) : Finset S8x2048x2048.Idx := (Rect.unit (s := S8x2048x2048) (chOff q) S1x512x2048.size (chOffA_inb q)).set
abbrev SC (q : Fin 4) : Finset S3x2048x2048.Idx := (Rect.unit (s := S3x2048x2048) (chOff q) S1x512x2048.size (chOffB_inb q)).set

/-- The entries of a graph's adjacency. -/
theorem grp_set (b : Fin 8) : (grp b).view.set = GS b := (View.set_reshape _ _).trans (View.set_slice_whole _ _)
/-- The entries of a slot. -/
theorem aslot_set (s : Fin 3) : (aslot s).view.set = SS s := (View.set_reshape _ _).trans (View.set_slice_whole _ _)
/-- The entries of a chunk of graph 0. -/
theorem gch_set (q : Fin 4) : (gch q).view.set = GC q := (View.set_reshape _ _).trans (View.set_slice_whole _ _)
/-- The entries of a chunk of the first slot. -/
theorem ach_set (q : Fin 4) : (ach q).view.set = SC q := (View.set_reshape _ _).trans (View.set_slice_whole _ _)

/-- An entry is in the graph that its first index names. -/
theorem mem_GS (b : Fin 8) (y : S8x2048x2048.Idx) : y ∈ GS b ↔ (y 0).val = b.val := by
  rw [Rect.mem_set_unit]
  have h1 : (y 1).val < 2048 := (y 1).isLt
  have h2 : (y 2).val < 2048 := (y 2).isLt
  constructor
  · intro H; have a0 : b.val ≤ (y 0).val ∧ (y 0).val < b.val + 1 := H 0; omega
  · intro H i
    match i with
    | ⟨0, _⟩ => show b.val ≤ (y 0).val ∧ (y 0).val < b.val + 1; omega
    | ⟨1, _⟩ => show 0 ≤ (y 1).val ∧ (y 1).val < 0 + 2048; omega
    | ⟨2, _⟩ => show 0 ≤ (y 2).val ∧ (y 2).val < 0 + 2048; omega
/-- An entry is in the slot that its first index names. -/
theorem mem_SS (b : Fin 3) (y : S3x2048x2048.Idx) : y ∈ SS b ↔ (y 0).val = b.val := by
  rw [Rect.mem_set_unit]
  have h1 : (y 1).val < 2048 := (y 1).isLt
  have h2 : (y 2).val < 2048 := (y 2).isLt
  constructor
  · intro H; have a0 : b.val ≤ (y 0).val ∧ (y 0).val < b.val + 1 := H 0; omega
  · intro H i
    match i with
    | ⟨0, _⟩ => show b.val ≤ (y 0).val ∧ (y 0).val < b.val + 1; omega
    | ⟨1, _⟩ => show 0 ≤ (y 1).val ∧ (y 1).val < 0 + 2048; omega
    | ⟨2, _⟩ => show 0 ≤ (y 2).val ∧ (y 2).val < 0 + 2048; omega
/-- An entry is in the chunk of its row. -/
theorem mem_GC (q : Fin 4) (y : S8x2048x2048.Idx) : y ∈ GC q ↔ (y 0).val = 0 ∧ 512 * q.val ≤ (y 1).val ∧ (y 1).val < 512 * q.val + 512 := by
  rw [Rect.mem_set_unit]
  have h2 : (y 2).val < 2048 := (y 2).isLt
  constructor
  · intro H
    have a0 : 0 ≤ (y 0).val ∧ (y 0).val < 0 + 1 := H 0
    have a1 : 512 * q.val ≤ (y 1).val ∧ (y 1).val < 512 * q.val + 512 := H 1
    omega
  · intro H i
    match i with
    | ⟨0, _⟩ => show 0 ≤ (y 0).val ∧ (y 0).val < 0 + 1; omega
    | ⟨1, _⟩ => show 512 * q.val ≤ (y 1).val ∧ (y 1).val < 512 * q.val + 512; omega
    | ⟨2, _⟩ => show 0 ≤ (y 2).val ∧ (y 2).val < 0 + 2048; omega
/-- The same in the first slot. -/
theorem mem_SC (q : Fin 4) (y : S3x2048x2048.Idx) : y ∈ SC q ↔ (y 0).val = 0 ∧ 512 * q.val ≤ (y 1).val ∧ (y 1).val < 512 * q.val + 512 := by
  rw [Rect.mem_set_unit]
  have h2 : (y 2).val < 2048 := (y 2).isLt
  constructor
  · intro H
    have a0 : 0 ≤ (y 0).val ∧ (y 0).val < 0 + 1 := H 0
    have a1 : 512 * q.val ≤ (y 1).val ∧ (y 1).val < 512 * q.val + 512 := H 1
    omega
  · intro H i
    match i with
    | ⟨0, _⟩ => show 0 ≤ (y 0).val ∧ (y 0).val < 0 + 1; omega
    | ⟨1, _⟩ => show 512 * q.val ≤ (y 1).val ∧ (y 1).val < 512 * q.val + 512; omega
    | ⟨2, _⟩ => show 0 ≤ (y 2).val ∧ (y 2).val < 0 + 2048; omega
/-- Two graphs share no entry. -/
theorem GS_disjoint : ∀ b b' : Fin 8, b ≠ b' → Disjoint (GS b) (GS b') := by
  intro b b' hne; rw [Finset.disjoint_left]; intro y hy hy'; rw [mem_GS] at hy hy'; exact hne (Fin.ext (hy.symm.trans hy'))
/-- The graphs make up the array. -/
theorem GS_cover : (Finset.univ : Finset (Fin 8)).biUnion GS = Finset.univ := by
  ext y; simp only [Finset.mem_biUnion, Finset.mem_univ, true_and, iff_true]; exact ⟨(y 0).cast (by decide), by rw [mem_GS]; rfl⟩
/-- Two slots share no entry. -/
theorem SS_disjoint : ∀ b b' : Fin 3, b ≠ b' → Disjoint (SS b) (SS b') := by
  intro b b' hne; rw [Finset.disjoint_left]; intro y hy hy'; rw [mem_SS] at hy hy'; exact hne (Fin.ext (hy.symm.trans hy'))
/-- The slots make up the buffer. -/
theorem SS_cover : (Finset.univ : Finset (Fin 3)).biUnion SS = Finset.univ := by
  ext y; simp only [Finset.mem_biUnion, Finset.mem_univ, true_and, iff_true]; exact ⟨(y 0).cast (by decide), by rw [mem_SS]; rfl⟩
/-- Two chunks of graph 0 share no entry. -/
theorem GC_disjoint : ∀ q q' : Fin 4, q ≠ q' → Disjoint (GC q) (GC q') := by
  intro q q' hne; rw [Finset.disjoint_left]; intro y hy hy'; rw [mem_GC] at hy hy'
  exact hne (Fin.ext (by omega))
/-- The chunks make up graph 0. -/
theorem GC_cover : (Finset.univ : Finset (Fin 4)).biUnion GC = GS 0 := by
  ext y
  have h1 : (y 1).val < 2048 := (y 1).isLt
  simp only [Finset.mem_biUnion, Finset.mem_univ, true_and]
  rw [mem_GS]
  constructor
  · rintro ⟨q, hq⟩; rw [mem_GC] at hq; exact hq.1
  · intro h
    have h' : (y 0).val = 0 := h
    refine ⟨⟨(y 1).val / 512, by omega⟩, ?_⟩
    rw [mem_GC]
    show (y 0).val = 0 ∧ 512 * ((y 1).val / 512) ≤ (y 1).val ∧ (y 1).val < 512 * ((y 1).val / 512) + 512
    omega
/-- Two chunks of the first slot share no entry. -/
theorem SC_disjoint : ∀ q q' : Fin 4, q ≠ q' → Disjoint (SC q) (SC q') := by
  intro q q' hne; rw [Finset.disjoint_left]; intro y hy hy'; rw [mem_SC] at hy hy'
  exact hne (Fin.ext (by omega))
/-- The chunks make up the first slot. -/
theorem SC_cover : (Finset.univ : Finset (Fin 4)).biUnion SC = SS 0 := by
  ext y
  have h1 : (y 1).val < 2048 := (y 1).isLt
  simp only [Finset.mem_biUnion, Finset.mem_univ, true_and]
  rw [mem_SS]
  constructor
  · rintro ⟨q, hq⟩; rw [mem_SC] at hq; exact hq.1
  · intro h
    have h' : (y 0).val = 0 := h
    refine ⟨⟨(y 1).val / 512, by omega⟩, ?_⟩
    rw [mem_SC]
    show (y 0).val = 0 ∧ 512 * ((y 1).val / 512) ≤ (y 1).val ∧ (y 1).val < 512 * ((y 1).val / 512) + 512
    omega

/-- Three things owned, one by one. -/
theorem sep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
/-- Four things owned, one by one. -/
theorem sep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- A piece of a buffer, cut into disjoint parts that cover it. -/
theorem pointsTo_parts {ℓ : Loc nD τ sig} {B : Type} [Fintype B] (I : B → Finset (Idx ℓ)) (hd : ∀ b b', b ≠ b' → Disjoint (I b) (I b'))
    {S : Finset (Idx ℓ)} (hc : Finset.univ.biUnion I = S) (f : Buf (Elt F) ℓ) :
    (ℓ ↦[S]{fullShare} f : sProp 𝕄) = bigSep Finset.univ fun b => ℓ ↦[I b]{fullShare} f := by
  rw [← pointsTo_biUnion Finset.univ I (fun b _ b' _ h => hd b b' h), hc]

/-- Equal parts, three of them. -/
theorem sep3 {A A' B B' C C' : sProp 𝕄} (ha : A = A') (hb : B = B') (hc : C = C') : iprop(A ∗ B ∗ C) = iprop(A' ∗ B' ∗ C') := by
  subst ha hb hc; rfl
/-- Equal parts, four of them. -/
theorem sep4 {A A' B B' C C' D D' : sProp 𝕄} (ha : A = A') (hb : B = B') (hc : C = C') (hd : D = D') : iprop(A ∗ B ∗ C ∗ D) = iprop(A' ∗ B' ∗ C' ∗ D') := by
  subst ha hb hc hd; rfl

section Splits
variable (c : Dev nD)

/-- A slot owned, as a set of entries. -/
theorem slotP_eq (s : Fin 3) (f) : slotP c s f = (((c : Thread nD τ).loc cc0_scratch0) ↦[SS s]{fullShare} f : sProp 𝕄) :=
  congrArg (fun S => (_ ↦[S]{fullShare} f : sProp 𝕄)) (aslot_set s)
/-- A chunk of it owned, as a set of entries. -/
theorem chunkP_eq (q : Fin 4) (f) : chunkP c q f = (((c : Thread nD τ).loc cc0_scratch0) ↦[SC q]{fullShare} f : sProp 𝕄) :=
  congrArg (fun S => (_ ↦[S]{fullShare} f : sProp 𝕄)) (ach_set q)
/-- A graph owned, as a set of entries. -/
theorem homeP_eq (XA) (b : Fin 8) : homeP c XA b = (((c : Thread nD τ).loc main_arg1) ↦[GS b]{fullShare} XA : sProp 𝕄) :=
  congrArg (fun S => (_ ↦[S]{fullShare} XA : sProp 𝕄)) (grp_set b)
/-- A chunk of graph 0 owned, as a set of entries. -/
theorem hchunkP_eq (XA) (q : Fin 4) : hchunkP c XA q = (((c : Thread nD τ).loc main_arg1) ↦[GC q]{fullShare} XA : sProp 𝕄) :=
  congrArg (fun S => (_ ↦[S]{fullShare} XA : sProp 𝕄)) (gch_set q)

/-- The adjacency array whole is its eight graphs. -/
theorem adj_eq (XA : Buf (Elt F) ((c : Thread nD τ).loc main_arg1)) :
    (((c : Thread nD τ).loc main_arg1) ↦{fullShare} XA : sProp 𝕄) = bigSep Finset.univ (homeP c XA) := by
  rw [Ring.pointsTo_blocks (ℓ := (c : Thread nD τ).loc main_arg1) GS GS_disjoint GS_cover]
  exact bigSep_congr fun b _ => (homeP_eq c XA b).symm
/-- Slot 0 is its four chunks, -/
theorem slot_chunks (f : Buf (Elt F) ((c : Thread nD τ).loc cc0_scratch0)) :
    (slotP c 0 f : sProp 𝕄) = iprop(chunkP c 0 f ∗ chunkP c 1 f ∗ chunkP c 2 f ∗ chunkP c 3 f) := by
  have e0 : (((c : Thread nD τ).loc cc0_scratch0) ↦[SS 0]{fullShare} f : sProp 𝕄) = bigSep Finset.univ fun q => (((c : Thread nD τ).loc cc0_scratch0) ↦[SC q]{fullShare} f : sProp 𝕄) :=
    pointsTo_parts (ℓ := (c : Thread nD τ).loc cc0_scratch0) SC SC_disjoint SC_cover f
  have e1 := sep_fin4 (F := F) (fun q => (((c : Thread nD τ).loc cc0_scratch0) ↦[SC q]{fullShare} f : sProp 𝕄))
  refine (slotP_eq c 0 f).trans (e0.trans (e1.trans ?_))
  exact sep4 (chunkP_eq c 0 f).symm (chunkP_eq c 1 f).symm (chunkP_eq c 2 f).symm (chunkP_eq c 3 f).symm
/-- and graph 0 at home its four. -/
theorem home_chunks (XA : Buf (Elt F) ((c : Thread nD τ).loc main_arg1)) :
    (homeP c XA 0 : sProp 𝕄) = iprop(hchunkP c XA 0 ∗ hchunkP c XA 1 ∗ hchunkP c XA 2 ∗ hchunkP c XA 3) := by
  have e0 : (((c : Thread nD τ).loc main_arg1) ↦[GS 0]{fullShare} XA : sProp 𝕄) = bigSep Finset.univ fun q => (((c : Thread nD τ).loc main_arg1) ↦[GC q]{fullShare} XA : sProp 𝕄) :=
    pointsTo_parts (ℓ := (c : Thread nD τ).loc main_arg1) GC GC_disjoint GC_cover XA
  have e1 := sep_fin4 (F := F) (fun q => (((c : Thread nD τ).loc main_arg1) ↦[GC q]{fullShare} XA : sProp 𝕄))
  refine (homeP_eq c XA 0).trans (e0.trans (e1.trans ?_))
  exact sep4 (hchunkP_eq c XA 0).symm (hchunkP_eq c XA 1).symm (hchunkP_eq c XA 2).symm (hchunkP_eq c XA 3).symm

/-- The buffer whole gives its three slots at its contents, -/
theorem buf_slots (f : Buf (Elt F) ((c : Thread nD τ).loc cc0_scratch0)) :
    (((c : Thread nD τ).loc cc0_scratch0) ↦{fullShare} f : sProp 𝕄) = iprop(slotP c 0 f ∗ slotP c 1 f ∗ slotP c 2 f) := by
  exact (Ring.pointsTo_blocks (ℓ := (c : Thread nD τ).loc cc0_scratch0) SS SS_disjoint SS_cover f).trans
    ((sep_fin3 _).trans (sep3 (slotP_eq c 0 f).symm (slotP_eq c 1 f).symm (slotP_eq c 2 f).symm))
/-- and three slots at any contents are the buffer at some. -/
theorem buf_join : iprop((∃ f, slotP c 0 f) ∗ (∃ f, slotP c 1 f) ∗ ∃ f, slotP c 2 f)
    ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) SS SS_disjoint SS_cover f0)
  irw [sep_fin3]
  isplitl [H0]
  · iexists f0; iapply (ent_of_eq (slotP_eq c 0 f0)); iexact H0
  isplitl [H1]
  · iexists f1; iapply (ent_of_eq (slotP_eq c 1 f1)); iexact H1
  · iexists f2; iapply (ent_of_eq (slotP_eq c 2 f2)); iexact H2

/-- Three slots named by consecutive counts are the three slots. -/
theorem slots_any (n : ℕ) (Φ : Fin 3 → sProp 𝕄) :
    iprop(Φ (Ring.sl 3 n) ∗ Φ (Ring.sl 3 (n + 1)) ∗ Φ (Ring.sl 3 (n + 2))) = bigSep Finset.univ Φ := by
  have e : (Finset.univ : Finset (Fin 3)) = insert (Ring.sl 3 n) (insert (Ring.sl 3 (n + 1)) (insert (Ring.sl 3 (n + 2)) ∅)) := by
    ext b
    simp only [Finset.mem_univ, Finset.mem_insert, Finset.notMem_empty, or_false, true_iff, Fin.ext_iff]
    show b.val = n % 3 ∨ b.val = (n + 1) % 3 ∨ b.val = (n + 2) % 3
    have := b.isLt; omega
  have ne : ∀ a b : ℕ, a % 3 ≠ b % 3 → Ring.sl 3 a ≠ Ring.sl 3 b := fun a b h k => h (congrArg Fin.val k)
  rw [e, BI.bigSep_insert (by
      simp only [Finset.mem_insert, Finset.notMem_empty, or_false, not_or]
      exact ⟨ne _ _ (by omega), ne _ _ (by omega)⟩),
    BI.bigSep_insert (by
      simp only [Finset.mem_insert, Finset.notMem_empty, or_false]
      exact ne _ _ (by omega)),
    BI.bigSep_insert (Finset.notMem_empty _), BI.bigSep_empty]
  exact (congrArg (fun z => iprop(Φ (Ring.sl 3 n) ∗ Φ (Ring.sl 3 (n + 1)) ∗ z)) (sep_emp_eq _)).symm

/-- The graphs at home but for one. -/
abbrev homesBut (XA : Buf (Elt F) (adjM.view.loc (c : Thread nD τ))) (b : Fin 8) : sProp 𝕄 := bigSep (Finset.univ.erase b) (homeP c XA)
/-- One graph taken out of all of them. -/
theorem homes_take (XA : Buf (Elt F) (adjM.view.loc (c : Thread nD τ))) (b : Fin 8) :
    (bigSep Finset.univ (homeP c XA) : sProp 𝕄) = iprop(homeP c XA b ∗ homesBut c XA b) := BI.bigSep_erase (Finset.mem_univ b)
/-- Another graph leaves while one returns. -/
theorem homes_swap (XA : Buf (Elt F) (adjM.view.loc (c : Thread nD τ))) {a b : Fin 8} (h : a ≠ b) :
    ∃ R : sProp 𝕄, (homesBut c XA a : sProp 𝕄) = iprop(homeP c XA b ∗ R) ∧ (homesBut c XA b : sProp 𝕄) = iprop(homeP c XA a ∗ R) := by
  refine ⟨bigSep ((Finset.univ.erase a).erase b) (homeP c XA), BI.bigSep_erase (Finset.mem_erase.2 ⟨h.symm, Finset.mem_univ _⟩), ?_⟩
  rw [Finset.erase_right_comm]
  exact BI.bigSep_erase (Finset.mem_erase.2 ⟨h, Finset.mem_univ _⟩)

end Splits
end Cert.Proof.Gcn
end
-- ==== Proof.Inv.lean ====
/-
  What holds between grid points, and one grid point as a step from one such state to the next.
-/
module

public import proofs.«01_k».proof.Proof.First
public import proofs.«01_k».proof.Proof.Last
public import proofs.«01_k».proof.Proof.Sets

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

/-- The grid has one axis: a point is its number. -/
theorem coord_val : ∀ t : Fin grid0.N, (grid0.coords t 0).val = t.val := by decide +kernel

/-- Slots are numbered modulo 3. -/
theorem sl_congr {a b : ℕ} (h : a % 3 = b % 3) : Ring.sl 3 a = Ring.sl 3 b := Fin.ext h
/-- A slot of the hidden scratch reads back what was stored in it. -/
theorem s2Slot_put (k : ℕ) (s : Fin 2) (h : s.val = k) (w : Vec F S1x2048x32 .f32) (f : S2x2048x32.Idx → Elt F .f32) : s2Slot (putS2 k w f) s = w := by
  funext y
  unfold s2Slot putS2
  have hy : (y 0).val < 1 := (y 0).isLt
  refine (if_pos h).trans (congrArg w ?_)
  funext a; apply Fin.ext
  match a with
  | ⟨0, _⟩ => show 0 = (y 0).val; omega
  | ⟨1, _⟩ => rfl
  | ⟨2, _⟩ => rfl

section Inv
variable (c : Dev nD) (XA : Buf (Elt F) (adjM.view.loc (c : Thread nD τ)))
  (tbl : Fin 8 → BitVec 32) (xg : Fin 8 → Vec F S1x2048x128 .f32) (w1 : Vec F S128x64 .f32) (b1 : Vec F S1x64 .f32)
  (w2 : Vec F S64x32 .f32) (b2 : Vec F S1x32 .f32) (wl : Vec F S32x1 .f32) (bl : Vec F S1x1 .f32)

/-- Graph `g`'s second-layer input. -/
def s2G (g : Fin 8) : Vec F S1x2048x32 .f32 :=
  if g.val = 0 then s2Of0 (xg g) w1 b1 w2 (tileA XA g) else s2Of (xg g) w1 b1 w2 (graphA XA g)
/-- Graph `g`'s result. -/
def rowG (g : Fin 8) : Vec F S1x1 .f32 :=
  rowOf (if g.val = 7 then tilesL else tilesM) (tbl g) (s2G c XA xg w1 b1 w2 g) b2 wl bl (tileA XA g)
/-- What point `n` leaves in the results, from what it finds there. -/
def outRel (n : ℕ) (Y X : S8x1.Idx → Elt F .f32) : Prop :=
  X = if n = 0 then Y else putRow (n - 1) (rowG c XA tbl xg w1 b1 w2 b2 wl bl (Ring.bk 8 (n - 1))) Y

/-- The semaphores of the row chunks, at zero. -/
def qcells : sProp 𝕄 := iprop(qcellP c 0 ∗ qcellP c 1 ∗ qcellP c 2 ∗ qcellP c 3)
/-- Before the first point and after the last: nothing in flight, the buffers at anything. -/
def invEnd : sProp 𝕄 :=
  iprop(bigSep Finset.univ (homeP c XA) ∗ (∃ f : Buf (Elt F) ((c : Thread nD τ).loc cc0_scratch0), ((c : Thread nD τ).loc cc0_scratch0) ↦{fullShare} f)
    ∗ (∃ fs, s2P c fs) ∗ (cellP c 0 ∗ cellP c 1 ∗ cellP c 2) ∗ qcells c)
/-- Before point `n` of the middle ones: graph `n` in flight, graph `n - 1` in its slot with its second-layer input beside. -/
def invMid (n : ℕ) : sProp 𝕄 :=
  iprop(homesBut c XA (Ring.bk 8 n) ∗ slotP c (Ring.sl 3 (n + 2)) (adjBuf c XA (Ring.bk 8 (n - 1)))
    ∗ (∃ f, slotP c (Ring.sl 3 (n + 1)) f) ∗ flightP c XA (Ring.sl 3 n) (Ring.bk 8 n)
    ∗ cellP c (Ring.sl 3 (n + 1)) ∗ cellP c (Ring.sl 3 (n + 2))
    ∗ (∃ fs, ⌜s2Slot fs (Ring.sl 2 (n + 1)) = s2G c XA xg w1 b1 w2 (Ring.bk 8 (n - 1))⌝ ∗ s2P c fs) ∗ qcells c)
/-- Before the last point: graph 7 in slot 1 with its second-layer input beside. -/
def invLast : sProp 𝕄 :=
  iprop(bigSep Finset.univ (homeP c XA) ∗ (slotP c 1 (adjBuf c XA 7) ∗ (∃ f, slotP c 0 f) ∗ (∃ f, slotP c 2 f))
    ∗ (∃ fs, ⌜s2Slot fs 1 = s2G c XA xg w1 b1 w2 7⌝ ∗ s2P c fs) ∗ (cellP c 0 ∗ cellP c 1 ∗ cellP c 2) ∗ qcells c)
/-- What holds before point `n`. -/
def inv (n : ℕ) : sProp 𝕄 :=
  if n = 0 ∨ n = 9 then invEnd c XA else if n = 8 then invLast c XA xg w1 b1 w2 else invMid c XA xg w1 b1 w2 n

/-- The invariant before the first point and after the last. -/
theorem inv_end {n : ℕ} (h : n = 0 ∨ n = 9) : inv c XA xg w1 b1 w2 n = invEnd c XA := if_pos h
/-- The invariant before points 1 to 7. -/
theorem inv_mid {n : ℕ} (h1 : 1 ≤ n) (h7 : n ≤ 7) : inv c XA xg w1 b1 w2 n = invMid c XA xg w1 b1 w2 n :=
  (if_neg (by omega)).trans (if_neg (by omega))
/-- The invariant before point 8. -/
theorem inv_last {n : ℕ} (h : n = 8) : inv c XA xg w1 b1 w2 n = invLast c XA xg w1 b1 w2 := (if_neg (by omega)).trans (if_pos h)

/-- The first point's pieces. -/
theorem first_in (n : ℕ) (hn : n = 0) :
    invEnd c XA ⊢ (iprop(∃ (f : Buf (Elt F) ((c : Thread nD τ).loc cc0_scratch0)), ∃ fs, ∃ R : sProp 𝕄, s2P c fs
      ∗ (chunkP c 0 f ∗ chunkP c 1 f ∗ chunkP c 2 f ∗ chunkP c 3 f) ∗ (hchunkP c XA 0 ∗ hchunkP c XA 1 ∗ hchunkP c XA 2 ∗ hchunkP c XA 3)
      ∗ (qcellP c 0 ∗ qcellP c 1 ∗ qcellP c 2 ∗ qcellP c 3) ∗ slotP c (Ring.sl 3 (n + 1)) f ∗ cellP c (Ring.sl 3 (n + 1)) ∗ homeP c XA (Ring.bk 8 (n + 1))
      ∗ R ∗ ⌜∀ fs', s2Slot fs' 0 = s2G c XA xg w1 b1 w2 0 →
        iprop(R ∗ s2P c fs' ∗ (chunkP c 0 (adjBuf c XA 0) ∗ chunkP c 1 (adjBuf c XA 0) ∗ chunkP c 2 (adjBuf c XA 0) ∗ chunkP c 3 (adjBuf c XA 0))
          ∗ (hchunkP c XA 0 ∗ hchunkP c XA 1 ∗ hchunkP c XA 2 ∗ hchunkP c XA 3)
          ∗ (qcellP c 0 ∗ qcellP c 1 ∗ qcellP c 2 ∗ qcellP c 3) ∗ flightP c XA (Ring.sl 3 (n + 1)) (Ring.bk 8 (n + 1))) ⊢ invMid c XA xg w1 b1 w2 (n + 1)⌝) : sProp 𝕄) := by
  subst hn
  obtain ⟨R, e0, e1⟩ := homes_swap c XA (a := (0 : Fin 8)) (b := 1) (by decide)
  have eb : Ring.bk 8 (0 + 1) = (1 : Fin 8) := rfl
  unfold invEnd qcells
  iintro ⟨HH, ⟨%f, HB⟩, ⟨%fs, HS⟩, ⟨Hc0, Hc1, Hc2⟩, HQ⟩
  ihave HH' := (ent_of_eq ((homes_take c XA 0).trans (congrArg (fun z => iprop(homeP c XA 0 ∗ z)) e0))) $$ HH
  icases HH' with ⟨Ha, Hh, HR⟩
  ihave Ha' := (ent_of_eq (home_chunks c XA)) $$ Ha
  ihave HB' := (ent_of_eq (buf_slots c f)) $$ HB
  icases HB' with ⟨Hs0, Hs1, Hs2⟩
  ihave Hs0' := (ent_of_eq (slot_chunks c f)) $$ Hs0
  iexists f; iexists fs; iexists (iprop(R ∗ slotP c 2 f ∗ cellP c 0 ∗ cellP c 2))
  isplitl [HS]; · iexact HS
  isplitl [Hs0']; · iexact Hs0'
  isplitl [Ha']; · iexact Ha'
  isplitl [HQ]; · iexact HQ
  isplitl [Hs1]; · iexact Hs1
  isplitl [Hc1]; · iexact Hc1
  isplitl [Hh]; · iexact Hh
  isplitl [HR Hs2 Hc0 Hc2]
  · isplitl [HR]; · iexact HR
    isplitl [Hs2]; · iexact Hs2
    isplitl [Hc0]; · iexact Hc0
    iexact Hc2
  ipureintro
  intro fs' hfs
  unfold invMid qcells
  iintro ⟨⟨HR, Hs2, Hc0, Hc2⟩, HS, Hch, Hhc, HQ, HF⟩
  ihave Hs := (ent_of_eq (slot_chunks c (adjBuf c XA 0)).symm) $$ Hch
  ihave Hh := (ent_of_eq (home_chunks c XA).symm) $$ Hhc
  isplitl [HR Hh]
  · iapply (ent_of_eq e1.symm)
    isplitl [Hh]; · iexact Hh
    iexact HR
  isplitl [Hs]; · iexact Hs
  isplitl [Hs2]; · iexists f; iexact Hs2
  isplitl [HF]; · iexact HF
  isplitl [Hc2]; · iexact Hc2
  isplitl [Hc0]; · iexact Hc0
  isplitl [HS]
  · iexists fs'
    isplitr; · ipureintro; exact hfs
    iexact HS
  iexact HQ
/-- A slot named by an equal number. -/
theorem slot_move {s s' : Fin 3} {b b' : Fin 8} (h : s = s') (hb : b = b') : (slotP c s (adjBuf c XA b) : sProp 𝕄) ⊢ slotP c s' (adjBuf c XA b') := by
  subst h hb; exact BIBase.Entails.rfl
/-- The same of a slot with any contents. -/
theorem slot_any_move {s s' : Fin 3} (h : s = s') : (iprop(∃ f, slotP c s f) : sProp 𝕄) ⊢ iprop(∃ f, slotP c s' f) := by
  subst h; exact BIBase.Entails.rfl
/-- The same of a counter. -/
theorem cell_move {s s' : Fin 3} (h : s = s') : (cellP c s : sProp 𝕄) ⊢ cellP c s' := by subst h; exact BIBase.Entails.rfl

/-- A middle point's pieces: the other homes, and how the next state is made. -/
theorem mid_in (n : ℕ) (hn1 : 1 ≤ n) (hn7 : n < 7) :
    (homesBut c XA (Ring.bk 8 n) : sProp 𝕄) ⊢ iprop(∃ R : sProp 𝕄, homeP c XA (Ring.bk 8 (n + 1)) ∗ R
      ∗ ⌜iprop(homeP c XA (Ring.bk 8 n) ∗ R) ⊢ (homesBut c XA (Ring.bk 8 (n + 1)) : sProp 𝕄)⌝) := by
  have hne : Ring.bk 8 n ≠ (Ring.bk 8 (n + 1) : Fin 8) := fun h => by
    have := congrArg Fin.val h
    rw [Ring.bk_val (by omega), Ring.bk_val (by omega)] at this; omega
  obtain ⟨R, e0, e1⟩ := homes_swap c XA hne
  iintro H
  ihave H' := (ent_of_eq e0) $$ H
  icases H' with ⟨Ha, HR⟩
  iexists R
  isplitl [Ha]; · iexact Ha
  isplitl [HR]; · iexact HR
  ipureintro
  exact ent_of_eq e1.symm
/-- A middle point keeps the state. -/
theorem mid_out (n : ℕ) (hn1 : 1 ≤ n) (hn7 : n < 7) (fs' : Buf (Elt F) (s2M.view.loc (c : Thread nD τ)))
    (hfs : s2Slot fs' (Ring.sl 2 (n + 2)) = s2G c XA xg w1 b1 w2 (Ring.bk 8 n)) :
    iprop(homesBut c XA (Ring.bk 8 (n + 1)) ∗ s2P c fs' ∗ slotP c (Ring.sl 3 (n + 2)) (adjBuf c XA (Ring.bk 8 (n - 1)))
      ∗ slotP c (Ring.sl 3 n) (adjBuf c XA (Ring.bk 8 n)) ∗ cellP c (Ring.sl 3 n) ∗ cellP c (Ring.sl 3 (n + 2))
      ∗ flightP c XA (Ring.sl 3 (n + 1)) (Ring.bk 8 (n + 1)) ∗ qcells c) ⊢ invMid c XA xg w1 b1 w2 (n + 1) := by
  unfold invMid
  have e3 : (Ring.sl 3 n : Fin 3) = Ring.sl 3 (n + 1 + 2) := sl_congr (by omega)
  iintro ⟨HH, HS, Ha, Hb, Hc0, Hc2, HF, HQ⟩
  isplitl [HH]; · iexact HH
  isplitl [Hb]; · iapply (slot_move c XA e3 rfl); iexact Hb
  isplitl [Ha]; · iexists _; iexact Ha
  isplitl [HF]; · iexact HF
  isplitl [Hc2]; · iexact Hc2
  isplitl [Hc0]; · iapply (cell_move c e3); iexact Hc0
  isplitl [HS]
  · iexists fs'
    isplitr; · ipureintro; exact hfs
    iexact HS
  iexact HQ
/-- Point 7 leaves nothing in flight. -/
theorem mid_out7 (n : ℕ) (hn7 : n = 7) (fs' : Buf (Elt F) (s2M.view.loc (c : Thread nD τ)))
    (hfs : s2Slot fs' (Ring.sl 2 (n + 2)) = s2G c XA xg w1 b1 w2 (Ring.bk 8 n)) :
    iprop(homesBut c XA (Ring.bk 8 n) ∗ homeP c XA (Ring.bk 8 n) ∗ s2P c fs' ∗ slotP c (Ring.sl 3 (n + 2)) (adjBuf c XA (Ring.bk 8 (n - 1)))
      ∗ slotP c (Ring.sl 3 n) (adjBuf c XA (Ring.bk 8 n)) ∗ (∃ f, slotP c (Ring.sl 3 (n + 1)) f)
      ∗ cellP c (Ring.sl 3 n) ∗ cellP c (Ring.sl 3 (n + 1)) ∗ cellP c (Ring.sl 3 (n + 2)) ∗ qcells c) ⊢ invLast c XA xg w1 b1 w2 := by
  subst hn7
  unfold invLast
  have e7 : (Ring.sl 3 7 : Fin 3) = 1 := rfl
  have e8 : (Ring.sl 3 (7 + 1) : Fin 3) = 2 := rfl
  have e9 : (Ring.sl 3 (7 + 2) : Fin 3) = 0 := rfl
  have eb : (Ring.bk 8 7 : Fin 8) = 7 := rfl
  have es : (Ring.sl 2 (7 + 2) : Fin 2) = 1 := rfl
  iintro ⟨HH, Hh, HS, Ha, Hb, Hc, Hc1, Hc2, Hc0, HQ⟩
  isplitl [HH Hh]
  · iapply (ent_of_eq (homes_take c XA (Ring.bk 8 7)).symm)
    isplitl [Hh]; · iexact Hh
    iexact HH
  isplitl [Ha Hb Hc]
  · isplitl [Hb]; · iapply (slot_move c XA e7 eb); iexact Hb
    isplitl [Ha]
    · iapply (slot_any_move c e9); iexists _; iexact Ha
    iapply (slot_any_move c e8); iexact Hc
  isplitl [HS]
  · iexists fs'
    isplitr; · ipureintro; rw [es, eb] at hfs; exact hfs
    iexact HS
  isplitl [Hc0 Hc1 Hc2]
  · isplitl [Hc0]; · iapply (cell_move c e9); iexact Hc0
    isplitl [Hc1]; · iapply (cell_move c e7); iexact Hc1
    iapply (cell_move c e8); iexact Hc2
  iexact HQ
/-- The last point's state ends as it began. -/
theorem last_out :
    iprop(bigSep Finset.univ (homeP c XA) ∗ (slotP c 1 (adjBuf c XA 7) ∗ (∃ f, slotP c 0 f) ∗ (∃ f, slotP c 2 f))
      ∗ (∃ fs, s2P c fs) ∗ (cellP c 0 ∗ cellP c 1 ∗ cellP c 2) ∗ qcells c) ⊢ (invEnd c XA : sProp 𝕄) := by
  unfold invEnd
  iintro ⟨HH, ⟨Hb, Ha, Hc⟩, HS, HC, HQ⟩
  isplitl [HH]; · iexact HH
  isplitl [Ha Hb Hc]
  · iapply (buf_join c)
    isplitl [Ha]; · iexact Ha
    isplitl [Hb]; · iexists _; iexact Hb
    iexact Hc
  isplitl [HS]; · iexact HS
  isplitl [HC]; · iexact HC
  iexact HQ
end Inv

section Step
variable (c : Dev nD) (XA : Buf (Elt F) (adjM.view.loc (c : Thread nD τ)))
  (arg1 : Memref sig .tc .smem S8 .i32) (harg1 : arg1.IsWhole) (arg2 : Memref sig .tc .vmem S1x2048x128 .f32) (harg2 : arg2.IsWhole)
  (arg4 : Memref sig .tc .vmem S128x64 .f32) (harg4 : arg4.IsWhole) (arg5 : Memref sig .tc .vmem S1x64 .f32) (harg5 : arg5.IsWhole)
  (arg6 : Memref sig .tc .vmem S64x32 .f32) (harg6 : arg6.IsWhole) (arg7 : Memref sig .tc .vmem S1x32 .f32) (harg7 : arg7.IsWhole)
  (arg8 : Memref sig .tc .vmem S32x1 .f32) (harg8 : arg8.IsWhole) (arg9 : Memref sig .tc .vmem S1x1 .f32) (harg9 : arg9.IsWhole)
  (arg10 : Memref sig .tc .vmem S8x1 .f32) (harg10 : arg10.IsWhole)

variable (T1 : Buf (Elt F) (arg1.view.loc (c : Thread nD τ))) (X2 : Buf (Elt F) (arg2.view.loc (c : Thread nD τ)))
  (X4 : Buf (Elt F) (arg4.view.loc (c : Thread nD τ))) (X5 : Buf (Elt F) (arg5.view.loc (c : Thread nD τ)))
  (X6 : Buf (Elt F) (arg6.view.loc (c : Thread nD τ))) (X7 : Buf (Elt F) (arg7.view.loc (c : Thread nD τ)))
  (X8 : Buf (Elt F) (arg8.view.loc (c : Thread nD τ))) (X9 : Buf (Elt F) (arg9.view.loc (c : Thread nD τ)))

variable (tbl : Fin 8 → BitVec 32) (xg : Fin 8 → Vec F S1x2048x128 .f32) (w1 : Vec F S128x64 .f32) (b1 : Vec F S1x64 .f32)
  (w2 : Vec F S64x32 .f32) (b2 : Vec F S1x32 .f32) (wl : Vec F S32x1 .f32) (bl : Vec F S1x1 .f32)

/-- What a point starts from, -/
abbrev stepPre (i : grid0.Coords) (Y : Buf (Elt F) (arg10.view.loc (c : Thread nD τ))) (W : Waits sig Unit) : sProp 𝕄 :=
  iprop(insP c arg1 arg2 arg4 arg5 arg6 arg7 arg8 arg9 T1 X2 X4 X5 X6 X7 X8 X9 ∗ outP c arg10 Y ∗ inv c XA xg w1 b1 w2 (i 0).val ∗ owes (c : Thread nD τ) 0 W)
/-- and what it leaves. -/
abbrev stepPost (i : grid0.Coords) (Y : Buf (Elt F) (arg10.view.loc (c : Thread nD τ))) : sProp 𝕄 :=
  iprop(insP c arg1 arg2 arg4 arg5 arg6 arg7 arg8 arg9 T1 X2 X4 X5 X6 X7 X8 X9
    ∗ (∃ Y', ⌜outRel c XA tbl xg w1 b1 w2 b2 wl bl (i 0).val (arg10.view.read (Elt F) Y) (arg10.view.read (Elt F) Y')⌝ ∗ outP c arg10 Y')
    ∗ inv c XA xg w1 b1 w2 ((i 0).val + 1) ∗ ∃ W, owes (c : Thread nD τ) 0 W)

/-- What the point reads are the program's operands. -/
structure Reads (i : grid0.Coords) : Prop where
  ht : ∀ g : Fin 8, arg1.view.read (Elt F) T1 (ix1 g) = tbl g
  h2 : arg2.view.read (Elt F) X2 = xg (Ring.bk 8 (min (i 0).val 7))
  h4 : arg4.view.read (Elt F) X4 = w1
  h5 : arg5.view.read (Elt F) X5 = b1
  h6 : arg6.view.read (Elt F) X6 = w2
  h7 : arg7.view.read (Elt F) X7 = b2
  h8 : arg8.view.read (Elt F) X8 = wl
  h9 : arg9.view.read (Elt F) X9 = bl
  hL : LenOK (tbl 7)

variable (i : grid0.Coords) (hR : Reads c arg1 arg2 arg4 arg5 arg6 arg7 arg8 arg9 T1 X2 X4 X5 X6 X7 X8 X9 tbl xg w1 b1 w2 b2 wl bl i)
  (Y : Buf (Elt F) (arg10.view.loc (c : Thread nD τ)))

include hR

/-- Point 0 leads from the first invariant to the next. -/
theorem step_first (hn : (i 0).val = 0) (W : Waits sig Unit) (Q : PUnit → sProp 𝕄) :
    iprop(stepPre c XA arg1 arg2 arg4 arg5 arg6 arg7 arg8 arg9 arg10 T1 X2 X4 X5 X6 X7 X8 X9 xg w1 b1 w2 i Y W
      ∗ (stepPost c XA arg1 arg2 arg4 arg5 arg6 arg7 arg8 arg9 arg10 T1 X2 X4 X5 X6 X7 X8 X9 tbl xg w1 b1 w2 b2 wl bl i Y -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  have key (fs : S2x2048x32.Idx → Elt F .f32) : s2Slot (putS2 0 (s2Of0 (arg2.view.read (Elt F) X2) (arg4.view.read (Elt F) X4) (arg5.view.read (Elt F) X5) (arg6.view.read (Elt F) X6) (tileA XA 0))
      fs) 0 = s2G c XA xg w1 b1 w2 0 := by
    rw [s2Slot_put 0 0 rfl, hR.h2, hR.h4, hR.h5, hR.h6, hn]
    unfold s2G; exact (if_pos rfl).symm
  unfold stepPre stepPost
  rw [inv_end c XA xg w1 b1 w2 (Or.inl hn), inv_mid c XA xg w1 b1 w2 (n := (i 0).val + 1) (by omega) (by omega)]
  iintro ⟨⟨HI, HO, HV, HW⟩, Hk⟩
  ihave HV' := (first_in c XA xg w1 b1 w2 (i 0).val hn) $$ HV
  icases HV' with ⟨%f, %fs, %R, HS, Hch, Hhc, HQ, Hs, Hc, Hh, HR, %hback⟩
  iapply (firstRun c XA arg1 harg1 arg2 harg2 arg4 harg4 arg5 harg5 arg6 harg6 arg7 harg7 arg8 harg8 arg9 harg9 arg10 harg10 T1 X2 X4 X5 X6 X7 X8 X9 fs i hn Y f f W Q)
  isplitl [HI]; · iexact HI
  isplitl [HO]; · iexact HO
  isplitl [HS]; · iexact HS
  isplitl [Hch]; · iexact Hch
  isplitl [Hhc]; · iexact Hhc
  isplitl [HQ]; · iexact HQ
  isplitl [Hs]; · iexact Hs
  isplitl [Hc]; · iexact Hc
  isplitl [Hh]; · iexact Hh
  isplitl [HW]; · iexact HW
  iintro ⟨HI, HO, HS, Hch, Hhc, HQ, HF, HW⟩
  iapply Hk
  isplitl [HI]; · iexact HI
  isplitl [HO]
  · iexists Y
    isplitr; · ipureintro; unfold outRel; exact (if_pos hn).symm
    iexact HO
  isplitr [HW]
  · iapply (hback _ (key fs))
    isplitl [HR]; · iexact HR
    isplitl [HS]; · iexact HS
    isplitl [Hch]; · iexact Hch
    isplitl [Hhc]; · iexact Hhc
    isplitl [HQ]; · iexact HQ
    iexact HF
  iexact HW

omit hR in
/-- The rows a point writes, once its reads are known. -/
theorem out_of {n k : ℕ} (hn : n ≠ 0) (hk : n - 1 = k) {A B : S8x1.Idx → Elt F .f32} {r : Vec F S1x1 .f32}
    (h : B = putRow k r A) (hr : r = rowG c XA tbl xg w1 b1 w2 b2 wl bl (Ring.bk 8 k)) : outRel c XA tbl xg w1 b1 w2 b2 wl bl n A B := by
  subst hk hr; unfold outRel; exact h.trans (if_neg hn).symm

/-- What a middle point stores in the hidden scratch. -/
theorem midS2_eq (hn1 : 1 ≤ (i 0).val) (hn7 : (i 0).val ≤ 7) (fs : Buf (Elt F) (s2M.view.loc (c : Thread nD τ))) :
    s2Slot (putS2 ((i 0).val % 2) (midS2 c XA arg2 arg4 arg5 arg6 X2 X4 X5 X6 i) fs) (Ring.sl 2 ((i 0).val + 2))
      = s2G c XA xg w1 b1 w2 (Ring.bk 8 (i 0).val) := by
  rw [s2Slot_put _ _ (show ((i 0).val + 2) % 2 = (i 0).val % 2 by omega)]
  unfold midS2 s2G
  rw [hR.h2, hR.h4, hR.h5, hR.h6, Nat.min_eq_left hn7, if_neg (by rw [Ring.bk_val (by omega)]; omega)]

/-- What a middle point stores in the results. -/
theorem midRow_eq (hn1 : 1 ≤ (i 0).val) (hn7 : (i 0).val ≤ 7) (fs : Buf (Elt F) (s2M.view.loc (c : Thread nD τ)))
    (hfs : s2Slot fs (Ring.sl 2 ((i 0).val + 1)) = s2G c XA xg w1 b1 w2 (Ring.bk 8 ((i 0).val - 1))) :
    midRow c XA arg1 arg7 arg8 arg9 T1 X7 X8 X9 fs i = rowG c XA tbl xg w1 b1 w2 b2 wl bl (Ring.bk 8 ((i 0).val - 1)) := by
  unfold midRow rowG
  rw [hfs, hR.ht, hR.h7, hR.h8, hR.h9, if_neg (by rw [Ring.bk_val (by omega)]; omega)]

/-- Points 1 to 6 lead from each invariant to the next. -/
theorem step_mid (hn1 : 1 ≤ (i 0).val) (hn7 : (i 0).val < 7) (W : Waits sig Unit) (Q : PUnit → sProp 𝕄) :
    iprop(stepPre c XA arg1 arg2 arg4 arg5 arg6 arg7 arg8 arg9 arg10 T1 X2 X4 X5 X6 X7 X8 X9 xg w1 b1 w2 i Y W
      ∗ (stepPost c XA arg1 arg2 arg4 arg5 arg6 arg7 arg8 arg9 arg10 T1 X2 X4 X5 X6 X7 X8 X9 tbl xg w1 b1 w2 b2 wl bl i Y -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  unfold stepPre stepPost
  rw [inv_mid c XA xg w1 b1 w2 hn1 (by omega), inv_mid c XA xg w1 b1 w2 (n := (i 0).val + 1) (by omega) (by omega)]
  obtain ⟨Z, hZ⟩ : ∃ Z, Z = invMid c XA xg w1 b1 w2 ((i 0).val + 1) := ⟨_, rfl⟩
  rw [← hZ]
  unfold invMid
  iintro ⟨⟨HI, HO, ⟨HH, Ha, ⟨%fC, HC⟩, HF, Hc, Hc2, ⟨%fs, %hfs, HS⟩, HQ⟩, HW⟩, Hk⟩
  ihave HH' := (mid_in c XA (i 0).val hn1 hn7) $$ HH
  icases HH' with ⟨%R, Hh, HR, %hback⟩
  iapply (midRun c XA arg1 harg1 arg2 harg2 arg4 harg4 arg5 harg5 arg6 harg6 arg7 harg7 arg8 harg8 arg9 harg9 arg10 harg10 T1 X2 X4 X5 X6 X7 X8 X9 fs i hn1 hn7 Y fC W Q)
  isplitl [HI]; · iexact HI
  isplitl [HO]; · iexact HO
  isplitl [HS]; · iexact HS
  isplitl [Ha]; · iexact Ha
  isplitl [HF]; · iexact HF
  isplitl [HC]; · iexact HC
  isplitl [Hc]; · iexact Hc
  isplitl [Hh]; · iexact Hh
  isplitl [HW]; · iexact HW
  unfold midPost
  iintro ⟨⟨HI, ⟨%Y', %hY, HO⟩, HS, Ha, Hb, Hh, Hc, HW⟩, HF⟩
  iapply Hk
  isplitl [HI]; · iexact HI
  isplitl [HO]
  · iexists Y'
    isplitr
    · ipureintro
      exact out_of c XA tbl xg w1 b1 w2 b2 wl bl (by omega) rfl hY (midRow_eq c XA arg1 arg2 arg4 arg5 arg6 arg7 arg8 arg9 T1 X2 X4 X5 X6 X7 X8 X9 tbl xg w1 b1 w2 b2 wl bl i hR hn1 (by omega) fs hfs)
    iexact HO
  isplitr [HW]
  · rw [hZ]
    iapply (mid_out c XA xg w1 b1 w2 (i 0).val hn1 hn7 _ (midS2_eq c XA arg1 arg2 arg4 arg5 arg6 arg7 arg8 arg9 T1 X2 X4 X5 X6 X7 X8 X9 tbl xg w1 b1 w2 b2 wl bl i hR hn1 (by omega) fs))
    isplitl [HR Hh]
    · iapply hback
      isplitl [Hh]; · iexact Hh
      iexact HR
    isplitl [HS]; · iexact HS
    isplitl [Ha]; · iexact Ha
    isplitl [Hb]; · iexact Hb
    isplitl [Hc]; · iexact Hc
    isplitl [Hc2]; · iexact Hc2
    isplitl [HF]; · iexact HF
    iexact HQ
  iexact HW

/-- Point 7, which starts no copy, does so too. -/
theorem step_mid7 (hn7 : (i 0).val = 7) (W : Waits sig Unit) (Q : PUnit → sProp 𝕄) :
    iprop(stepPre c XA arg1 arg2 arg4 arg5 arg6 arg7 arg8 arg9 arg10 T1 X2 X4 X5 X6 X7 X8 X9 xg w1 b1 w2 i Y W
      ∗ (stepPost c XA arg1 arg2 arg4 arg5 arg6 arg7 arg8 arg9 arg10 T1 X2 X4 X5 X6 X7 X8 X9 tbl xg w1 b1 w2 b2 wl bl i Y -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  unfold stepPre stepPost
  rw [inv_mid c XA xg w1 b1 w2 (n := (i 0).val) (by omega) (by omega), inv_last c XA xg w1 b1 w2 (n := (i 0).val + 1) (by omega)]
  unfold invMid
  iintro ⟨⟨HI, HO, ⟨HH, Ha, HC, HF, Hc, Hc2, ⟨%fs, %hfs, HS⟩, HQ⟩, HW⟩, Hk⟩
  iapply (midRun7 c XA arg1 harg1 arg2 harg2 arg4 harg4 arg5 harg5 arg6 harg6 arg7 harg7 arg8 harg8 arg9 harg9 arg10 harg10 T1 X2 X4 X5 X6 X7 X8 X9 fs i (by omega) hn7 Y W Q)
  isplitl [HI]; · iexact HI
  isplitl [HO]; · iexact HO
  isplitl [HS]; · iexact HS
  isplitl [Ha]; · iexact Ha
  isplitl [HF]; · iexact HF
  isplitl [HW]; · iexact HW
  unfold midPost
  iintro ⟨HI, ⟨%Y', %hY, HO⟩, HS, Ha, Hb, Hh, Hc0, HW⟩
  iapply Hk
  isplitl [HI]; · iexact HI
  isplitl [HO]
  · iexists Y'
    isplitr
    · ipureintro
      exact out_of c XA tbl xg w1 b1 w2 b2 wl bl (by omega) rfl hY (midRow_eq c XA arg1 arg2 arg4 arg5 arg6 arg7 arg8 arg9 T1 X2 X4 X5 X6 X7 X8 X9 tbl xg w1 b1 w2 b2 wl bl i hR (by omega) (by omega) fs hfs)
    iexact HO
  isplitr [HW]
  · iapply (mid_out7 c XA xg w1 b1 w2 (i 0).val hn7 _ (midS2_eq c XA arg1 arg2 arg4 arg5 arg6 arg7 arg8 arg9 T1 X2 X4 X5 X6 X7 X8 X9 tbl xg w1 b1 w2 b2 wl bl i hR (by omega) (by omega) fs))
    isplitl [HH]; · iexact HH
    isplitl [Hh]; · iexact Hh
    isplitl [HS]; · iexact HS
    isplitl [Ha]; · iexact Ha
    isplitl [Hb]; · iexact Hb
    isplitl [HC]; · iexact HC
    isplitl [Hc0]; · iexact Hc0
    isplitl [Hc]; · iexact Hc
    isplitl [Hc2]; · iexact Hc2
    iexact HQ
  iexact HW

/-- Point 8 leads to the last invariant. -/
theorem step_last (hn8 : (i 0).val = 8) (W : Waits sig Unit) (Q : PUnit → sProp 𝕄) :
    iprop(stepPre c XA arg1 arg2 arg4 arg5 arg6 arg7 arg8 arg9 arg10 T1 X2 X4 X5 X6 X7 X8 X9 xg w1 b1 w2 i Y W
      ∗ (stepPost c XA arg1 arg2 arg4 arg5 arg6 arg7 arg8 arg9 arg10 T1 X2 X4 X5 X6 X7 X8 X9 tbl xg w1 b1 w2 b2 wl bl i Y -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  unfold stepPre stepPost
  rw [inv_last c XA xg w1 b1 w2 hn8, inv_end c XA xg w1 b1 w2 (n := (i 0).val + 1) (Or.inr (by omega))]
  unfold invLast
  iintro ⟨⟨HI, HO, ⟨HH, ⟨Ha, Hs0, Hs2⟩, ⟨%fs, %hfs, HS⟩, HC, HQ⟩, HW⟩, Hk⟩
  iapply (lastRun c XA arg1 harg1 arg2 harg2 arg4 harg4 arg5 harg5 arg6 harg6 arg7 harg7 arg8 harg8 arg9 harg9 arg10 harg10 T1 X2 X4 X5 X6 X7 X8 X9 fs i hn8 (by rw [hR.ht]; exact hR.hL) Y W Q)
  isplitl [HI]; · iexact HI
  isplitl [HO]; · iexact HO
  isplitl [HS]; · iexact HS
  isplitl [Ha]; · iexact Ha
  isplitl [HW]; · iexact HW
  iintro ⟨HI, ⟨%Y', %hY, HO⟩, HS, Ha, HW⟩
  iapply Hk
  isplitl [HI]; · iexact HI
  isplitl [HO]
  · iexists Y'
    isplitr
    · ipureintro
      refine out_of c XA tbl xg w1 b1 w2 b2 wl bl (k := 7) (by omega) (by omega) hY ?_
      unfold lastRow rowG
      rw [show (Ring.bk 8 7 : Fin 8) = 7 from rfl, hfs, hR.ht, hR.h7, hR.h8, hR.h9, if_pos (show ((7 : Fin 8).val = 7) from rfl)]
    iexact HO
  isplitr [HW]
  · iapply (last_out c XA)
    isplitl [HH]; · iexact HH
    isplitl [Ha Hs0 Hs2]
    · isplitl [Ha]; · iexact Ha
      isplitl [Hs0]; · iexact Hs0
      iexact Hs2
    isplitl [HS]; · iexists fs; iexact HS
    isplitl [HC]; · iexact HC
    iexact HQ
  iexact HW

/-- One grid point. -/
theorem step_run (W : Waits sig Unit) (Q : PUnit → sProp 𝕄) :
    iprop(stepPre c XA arg1 arg2 arg4 arg5 arg6 arg7 arg8 arg9 arg10 T1 X2 X4 X5 X6 X7 X8 X9 xg w1 b1 w2 i Y W
      ∗ (stepPost c XA arg1 arg2 arg4 arg5 arg6 arg7 arg8 arg9 arg10 T1 X2 X4 X5 X6 X7 X8 X9 tbl xg w1 b1 w2 b2 wl bl i Y -∗ Q ⟨⟩))
    ⊢ wp frame (wpE (defs₀ (F := F)) 𝒱₀ (c : Thread nD τ) none) Set.univ
        (bodyG arg1 harg1 arg2 harg2 arg4 harg4 arg5 harg5 arg6 harg6 arg7 harg7 arg8 harg8 arg9 harg9 arg10 harg10 i) Q := by
  have hi : (i 0).val < 9 := (i 0).isLt
  by_cases h0 : (i 0).val = 0
  · exact step_first c XA arg1 harg1 arg2 harg2 arg4 harg4 arg5 harg5 arg6 harg6 arg7 harg7 arg8 harg8 arg9 harg9 arg10 harg10 T1 X2 X4 X5 X6 X7 X8 X9 tbl xg w1 b1 w2 b2 wl bl i hR Y h0 W Q
  by_cases h7 : (i 0).val < 7
  · exact step_mid c XA arg1 harg1 arg2 harg2 arg4 harg4 arg5 harg5 arg6 harg6 arg7 harg7 arg8 harg8 arg9 harg9 arg10 harg10 T1 X2 X4 X5 X6 X7 X8 X9 tbl xg w1 b1 w2 b2 wl bl i hR Y (by omega) h7 W Q
  by_cases h7 : (i 0).val = 7
  · exact step_mid7 c XA arg1 harg1 arg2 harg2 arg4 harg4 arg5 harg5 arg6 harg6 arg7 harg7 arg8 harg8 arg9 harg9 arg10 harg10 T1 X2 X4 X5 X6 X7 X8 X9 tbl xg w1 b1 w2 b2 wl bl i hR Y h7 W Q
  · exact step_last c XA arg1 harg1 arg2 harg2 arg4 harg4 arg5 harg5 arg6 harg6 arg7 harg7 arg8 harg8 arg9 harg9 arg10 harg10 T1 X2 X4 X5 X6 X7 X8 X9 tbl xg w1 b1 w2 b2 wl bl i hR Y (by omega) W Q

end Step
end Cert.Proof.Gcn
end
-- ==== Proof.Run.lean ====
/-
  The launch: the proof data of the pipeline, the body at each grid point, and the run of `@main`.
-/
module

public import proofs.«01_k».proof.Proof.Inv
public import proofs.«01_k».proof.Proof.Gen.KernelIdeal.Launch
public import Idealize.ShloMosaic.Lib.Pipeline.Frame
public import Idealize.ShloMosaic.Lib.Pipeline.FrameBody
public import Idealize.ShloMosaic.Lib.Pipeline.ArrRel
public import Idealize.ShloMosaic.Lib.Pipeline.ValueKit

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-- A buffer's contents where the region is entered: the launch contents, the three biases recast. -/
abbrev V (c : Dev nD) (b : Ref sig .tc) : Buf (Elt F) ((c : Thread nD τ).loc b) := StableHlo.after hostOps0 (fun b => m (c, b)) b
/-- Any prefetched contents are admissible. -/
theorem ok_any (pf : pre0.Contents (Elt F)) : ok0 pf := by unfold ok0; trivial
/-- The table's contents, admissible whatever they are. -/
def adm (_ : Fin 1) : (pcfg0 (F := F)).Adm := ⟨fun k => V m 0 (pre0.ref k), ok_any (F := F) (fun k => V m 0 (pre0.ref k))⟩

/-! ## The operands -/
abbrev opA (c : Dev nD) : Buf (Elt F) (adjM.view.loc (c : Thread nD τ)) := V m c main_arg1
abbrev opT (c : Dev nD) (g : Fin 8) : BitVec 32 := (V m c main_arg2 : S8.Idx → Elt F .i32) (ValueIdx.ix1 g)
def opX (c : Dev nD) (g : Fin 8) : Vec F S1x2048x128 .f32 := fun y => (V m c main_arg0 : S8x2048x128.Idx → Elt F .f32) (ValueIdx.ix3 g (y 1) (y 2))
abbrev opW1 (c : Dev nD) : Vec F S128x64 .f32 := V m c main_arg3
abbrev opB1 (c : Dev nD) : Vec F S1x64 .f32 := V m c main_v0
abbrev opW2 (c : Dev nD) : Vec F S64x32 .f32 := V m c main_arg5
abbrev opB2 (c : Dev nD) : Vec F S1x32 .f32 := V m c main_v1
abbrev opWl (c : Dev nD) : Vec F S32x1 .f32 := V m c main_arg7
abbrev opBl (c : Dev nD) : Vec F S1x1 .f32 := V m c main_v2

/-- The invariant of the point. -/
abbrev INV (c : Dev nD) (n : ℕ) : sProp 𝕄 := inv c (opA m c) (opX m c) (opW1 m c) (opB1 m c) (opW2 m c) n
/-- What the point leaves in the results. -/
abbrev OUT (c : Dev nD) (n : ℕ) (Y X : S8x1.Idx → Elt F .f32) : Prop :=
  outRel c (opA m c) (opT m c) (opX m c) (opW1 m c) (opB1 m c) (opW2 m c) (opB2 m c) (opWl m c) (opBl m c) n Y X

/-- The proof data: the inputs are left as found, the results by `OUT`. -/
def rdat (c : Dev nD) : Pipeline.RDat τ (Elt F) Unit ℕ (UU nD τ) ℕ (cfg0 (adm m 0)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => OUT m c t.val Y X
  Φ t := iprop((((c : Thread nD τ).loc main_arg2) ↦{fullShare.right} V m c main_arg2) ∗ (∃ r, prngReg c r) ∗ INV m c t.val)
  q _ := fullShare
  owed _ := 0

/-- No window is cut off at the edge. -/
theorem clip0 (w : Fin 8) (t : Fin grid0.N) (a) : ((cfg0 (adm m 0)).win w).clip (grid0.coords t) a = none := by
  fin_cases w <;> rfl

/-- An input window finds the array as launched. -/
theorem finds_in (c : Dev nD) (w : Fin 8) (hw : w.val < 7) (t : Fin grid0.N) (Y) (h : (rdat m c).Finds w t Y) : ∃ d, Y = (rdat m c).fetched w t d := by
  refine Pipeline.RDat.finds_in_eq_fetched (rdat m c) w ?_ (fun t t' _ => ?_) ?_ t Y h
  · fin_cases w <;> first | rfl | exact absurd hw (by decide)
  · funext a; exact (clip0 m w t a).trans (clip0 m w t' a).symm
  · intro t Y X hX
    fin_cases w <;> first | exact hX | exact absurd hw (by decide)

/-- Input window 0 holds its block of the array as launched. -/
theorem found0 (c : Dev nD) (t : Fin grid0.N) (Y) (h : (rdat m c).Finds (0 : Fin 8) t Y) : Y = opX m c (Ring.bk 8 (min t.val 7)) := by
  obtain ⟨d, rfl⟩ := finds_in m c 0 (by decide) t Y h
  have e : ∀ t : Fin grid0.N, cc0_transform_0 (grid0.coords t) = ![min t.val 7, 0, 0] := by decide +kernel
  funext y
  refine (Pipeline.Window.fill_xinj ((cfg0 (adm m 0)).win 0) (grid0.coords t) d ((rdat m c).blockOf 0 t) y).trans ?_
  refine (View.read_apply ..).trans ?_
  refine congrArg (V m c main_arg0 : S8x2048x128.Idx → Elt F .f32) (funext fun a => Fin.ext ?_)
  refine (Pipeline.Window.rect_emb_val (w := (cfg0 (adm m 0)).win 0) (hk := rfl) ..).trans ?_
  have hy0 : (y 0).val < 1 := (y 0).isLt
  have e' := congrFun (e t) a
  refine (congrArg (fun z => z * S1x2048x128.size a + (y a).val) e').trans ?_
  match a with
  | ⟨0, _⟩ => show min t.val 7 * 1 + (y 0).val = (Ring.bk 8 (min t.val 7)).val; rw [Ring.bk_val (by omega)]; omega
  | ⟨1, _⟩ => show 0 * 2048 + (y 1).val = (y 1).val; omega
  | ⟨2, _⟩ => show 0 * 128 + (y 2).val = (y 2).val; omega

/-- Input window 1 holds its block of the array as launched. -/
theorem found1 (c : Dev nD) (t : Fin grid0.N) (Y) (h : (rdat m c).Finds (1 : Fin 8) t Y) : Y = opW1 m c := by
  obtain ⟨d, rfl⟩ := finds_in m c 1 (by decide) t Y h
  have e : ∀ t : Fin grid0.N, cc0_transform_2 (grid0.coords t) = ![0, 0] := by decide +kernel
  funext y
  refine (Pipeline.Window.fill_xinj ((cfg0 (adm m 0)).win 1) (grid0.coords t) d ((rdat m c).blockOf 1 t) y).trans ?_
  refine (View.read_apply ..).trans ?_
  refine congrArg (V m c main_arg3 : S128x64.Idx → Elt F .f32) (funext fun a => Fin.ext ?_)
  refine (Pipeline.Window.rect_emb_val (w := (cfg0 (adm m 0)).win 1) (hk := rfl) ..).trans ?_
  refine (congrArg (fun z => z * S128x64.size a + (y a).val) (congrFun (e t) a)).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

/-- Input window 2 holds its block of the array as launched. -/
theorem found2 (c : Dev nD) (t : Fin grid0.N) (Y) (h : (rdat m c).Finds (2 : Fin 8) t Y) : Y = opB1 m c := by
  obtain ⟨d, rfl⟩ := finds_in m c 2 (by decide) t Y h
  have e : ∀ t : Fin grid0.N, cc0_transform_3 (grid0.coords t) = ![0, 0] := by decide +kernel
  funext y
  refine (Pipeline.Window.fill_xinj ((cfg0 (adm m 0)).win 2) (grid0.coords t) d ((rdat m c).blockOf 2 t) y).trans ?_
  refine (View.read_apply ..).trans ?_
  refine congrArg (V m c main_v0 : S1x64.Idx → Elt F .f32) (funext fun a => Fin.ext ?_)
  refine (Pipeline.Window.rect_emb_val (w := (cfg0 (adm m 0)).win 2) (hk := rfl) ..).trans ?_
  refine (congrArg (fun z => z * S1x64.size a + (y a).val) (congrFun (e t) a)).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

/-- Input window 3 holds its block of the array as launched. -/
theorem found3 (c : Dev nD) (t : Fin grid0.N) (Y) (h : (rdat m c).Finds (3 : Fin 8) t Y) : Y = opW2 m c := by
  obtain ⟨d, rfl⟩ := finds_in m c 3 (by decide) t Y h
  have e : ∀ t : Fin grid0.N, cc0_transform_4 (grid0.coords t) = ![0, 0] := by decide +kernel
  funext y
  refine (Pipeline.Window.fill_xinj ((cfg0 (adm m 0)).win 3) (grid0.coords t) d ((rdat m c).blockOf 3 t) y).trans ?_
  refine (View.read_apply ..).trans ?_
  refine congrArg (V m c main_arg5 : S64x32.Idx → Elt F .f32) (funext fun a => Fin.ext ?_)
  refine (Pipeline.Window.rect_emb_val (w := (cfg0 (adm m 0)).win 3) (hk := rfl) ..).trans ?_
  refine (congrArg (fun z => z * S64x32.size a + (y a).val) (congrFun (e t) a)).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

/-- Input window 4 holds its block of the array as launched. -/
theorem found4 (c : Dev nD) (t : Fin grid0.N) (Y) (h : (rdat m c).Finds (4 : Fin 8) t Y) : Y = opB2 m c := by
  obtain ⟨d, rfl⟩ := finds_in m c 4 (by decide) t Y h
  have e : ∀ t : Fin grid0.N, cc0_transform_5 (grid0.coords t) = ![0, 0] := by decide +kernel
  funext y
  refine (Pipeline.Window.fill_xinj ((cfg0 (adm m 0)).win 4) (grid0.coords t) d ((rdat m c).blockOf 4 t) y).trans ?_
  refine (View.read_apply ..).trans ?_
  refine congrArg (V m c main_v1 : S1x32.Idx → Elt F .f32) (funext fun a => Fin.ext ?_)
  refine (Pipeline.Window.rect_emb_val (w := (cfg0 (adm m 0)).win 4) (hk := rfl) ..).trans ?_
  refine (congrArg (fun z => z * S1x32.size a + (y a).val) (congrFun (e t) a)).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

/-- Input window 5 holds its block of the array as launched. -/
theorem found5 (c : Dev nD) (t : Fin grid0.N) (Y) (h : (rdat m c).Finds (5 : Fin 8) t Y) : Y = opWl m c := by
  obtain ⟨d, rfl⟩ := finds_in m c 5 (by decide) t Y h
  have e : ∀ t : Fin grid0.N, cc0_transform_6 (grid0.coords t) = ![0, 0] := by decide +kernel
  funext y
  refine (Pipeline.Window.fill_xinj ((cfg0 (adm m 0)).win 5) (grid0.coords t) d ((rdat m c).blockOf 5 t) y).trans ?_
  refine (View.read_apply ..).trans ?_
  refine congrArg (V m c main_arg7 : S32x1.Idx → Elt F .f32) (funext fun a => Fin.ext ?_)
  refine (Pipeline.Window.rect_emb_val (w := (cfg0 (adm m 0)).win 5) (hk := rfl) ..).trans ?_
  refine (congrArg (fun z => z * S32x1.size a + (y a).val) (congrFun (e t) a)).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

/-- Input window 6 holds its block of the array as launched. -/
theorem found6 (c : Dev nD) (t : Fin grid0.N) (Y) (h : (rdat m c).Finds (6 : Fin 8) t Y) : Y = opBl m c := by
  obtain ⟨d, rfl⟩ := finds_in m c 6 (by decide) t Y h
  have e : ∀ t : Fin grid0.N, cc0_transform_7 (grid0.coords t) = ![0, 0] := by decide +kernel
  funext y
  refine (Pipeline.Window.fill_xinj ((cfg0 (adm m 0)).win 6) (grid0.coords t) d ((rdat m c).blockOf 6 t) y).trans ?_
  refine (View.read_apply ..).trans ?_
  refine congrArg (V m c main_v2 : S1x1.Idx → Elt F .f32) (funext fun a => Fin.ext ?_)
  refine (Pipeline.Window.rect_emb_val (w := (cfg0 (adm m 0)).win 6) (hk := rfl) ..).trans ?_
  refine (congrArg (fun z => z * S1x1.size a + (y a).val) (congrFun (e t) a)).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

/-! ## The body at a grid point -/

abbrev st (w : Fin 8) (t : Fin grid0.N) := ((cfg0 (adm m 0)).win w).stage ((cfg0 (adm m 0)).slots t w)
/-- The table as the body is handed it. -/
abbrev tabM : Memref sig .tc .smem S8 .i32 := Memref.whole main_arg2

/-- The body that the launch calls. -/
theorem defs_tc : (defs₀ (F := F)) .tc (cfg0 (adm m 0)).body
    = fun a => bodyG tabM (Memref.isWhole_whole _) (spec0_0.stage (a.2 0)) (hstage0_0 ((a.2 0).cast nbuf0_0)) (spec0_1.stage (a.2 1)) (hstage0_1 ((a.2 1).cast nbuf0_1))
        (spec0_2.stage (a.2 2)) (hstage0_2 ((a.2 2).cast nbuf0_2)) (spec0_3.stage (a.2 3)) (hstage0_3 ((a.2 3).cast nbuf0_3))
        (spec0_4.stage (a.2 4)) (hstage0_4 ((a.2 4).cast nbuf0_4)) (spec0_5.stage (a.2 5)) (hstage0_5 ((a.2 5).cast nbuf0_5))
        (spec0_6.stage (a.2 6)) (hstage0_6 ((a.2 6).cast nbuf0_6)) (spec0_7.stage (a.2 7)) (hstage0_7 ((a.2 7).cast nbuf0_7)) (grid0.coords a.1) := rfl

/-- The body at a point is the kernel's program there. -/
theorem prog_eq (t : Fin grid0.N) : (defs₀ (F := F)) .tc (cfg0 (adm m 0)).body ((cfg0 (adm m 0)).bodyArgs t ((cfg0 (adm m 0)).slots t))
    = bodyG tabM (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (spec0_5.stage ((cfg0 (adm m 0)).slots t 5)) (hstage0_5 (((cfg0 (adm m 0)).slots t 5).cast nbuf0_5)) (spec0_6.stage ((cfg0 (adm m 0)).slots t 6)) (hstage0_6 (((cfg0 (adm m 0)).slots t 6).cast nbuf0_6)) (spec0_7.stage ((cfg0 (adm m 0)).slots t 7)) (hstage0_7 (((cfg0 (adm m 0)).slots t 7).cast nbuf0_7)) (grid0.coords t) :=
  (congrFun (defs_tc m) _).trans rfl

/-- The table whole is the table's cells. -/
theorem tab_eq (c : Dev nD) (q : PosShare TreeShare) (f : Buf (Elt F) ((c : Thread nD τ).loc main_arg2)) :
    ((((c : Thread nD τ).loc main_arg2) ↦{q} f) : sProp 𝕄) = (tabM.view.loc (c : Thread nD τ) ↦[tabM.view.set]{q} f) :=
  congrArg (fun S => (((c : Thread nD τ).loc main_arg2) ↦[S]{q} f : sProp 𝕄)) (View.set_whole main_arg2).symm

/-- The precondition as the proof uses it: the last word is a length between 1 and 2048. -/
def PreOK : Prop := ∀ c : Dev nD, LenOK (opT m c 7)

set_option backward.isDefEq.respectTransparency.types false in
/-- Every point keeps the invariant and leaves what `rdat` states. -/
theorem body_obligation (h : PreOK m) (c : Dev nD) : (rdat m c).BodyObligation (defs₀ (F := F)) 𝒱₀ () Set.univ := fun t Y hY => by
  have r0 := found0 m c t _ (hY 0)
  have r1 := found1 m c t _ (hY 1)
  have r2 := found2 m c t _ (hY 2)
  have r3 := found3 m c t _ (hY 3)
  have r4 := found4 m c t _ (hY 4)
  have r5 := found5 m c t _ (hY 5)
  have r6 := found6 m c t _ (hY 6)
  have et : (grid0.coords t 0).val = t.val := coord_val t
  have hR : ∀ g0 g1 g2 g3 g4 g5 g6, (spec0_0.stage ((cfg0 (adm m 0)).slots t 0)).view.read (Elt F) g0 = Y 0 → (spec0_1.stage ((cfg0 (adm m 0)).slots t 1)).view.read (Elt F) g1 = Y 1 → (spec0_2.stage ((cfg0 (adm m 0)).slots t 2)).view.read (Elt F) g2 = Y 2 → (spec0_3.stage ((cfg0 (adm m 0)).slots t 3)).view.read (Elt F) g3 = Y 3 → (spec0_4.stage ((cfg0 (adm m 0)).slots t 4)).view.read (Elt F) g4 = Y 4 → (spec0_5.stage ((cfg0 (adm m 0)).slots t 5)).view.read (Elt F) g5 = Y 5 → (spec0_6.stage ((cfg0 (adm m 0)).slots t 6)).view.read (Elt F) g6 = Y 6 →
      Reads c tabM (spec0_0.stage ((cfg0 (adm m 0)).slots t 0)) (spec0_1.stage ((cfg0 (adm m 0)).slots t 1)) (spec0_2.stage ((cfg0 (adm m 0)).slots t 2)) (spec0_3.stage ((cfg0 (adm m 0)).slots t 3)) (spec0_4.stage ((cfg0 (adm m 0)).slots t 4)) (spec0_5.stage ((cfg0 (adm m 0)).slots t 5)) (spec0_6.stage ((cfg0 (adm m 0)).slots t 6)) (V m c main_arg2) g0 g1 g2 g3 g4 g5 g6 (opT m c) (opX m c) (opW1 m c) (opB1 m c) (opW2 m c) (opB2 m c) (opWl m c) (opBl m c) (grid0.coords t) := fun g0 g1 g2 g3 g4 g5 g6 e0 e1 e2 e3 e4 e5 e6 =>
    ⟨fun _ => rfl, (e0.trans r0).trans (by rw [et]), e1.trans r1, e2.trans r2, e3.trans r3, e4.trans r4, e5.trans r5, e6.trans r6, h c⟩
  rw [bigSep_W0, bigSep_W0]
  dsimp only
  rw [show (rdat m c).Φ t.castSucc = iprop((((c : Thread nD τ).loc main_arg2) ↦{fullShare.right} V m c main_arg2) ∗ (∃ r, prngReg c r) ∗ INV m c t.val) from rfl,
    show (rdat m c).Φ t.succ = iprop((((c : Thread nD τ).loc main_arg2) ↦{fullShare.right} V m c main_arg2) ∗ (∃ r, prngReg c r) ∗ INV m c (t.val + 1)) from rfl]
  unfold Pipeline.RDat.owesAt Pipeline.owesWithin
  rw [show (rdat m c).owed t.castSucc = 0 from rfl, show (rdat m c).owed t.succ = 0 from rfl]
  unfold owns
  iintro ⟨⟨HT, HG, HI⟩, ⟨%W, -, HW⟩, ⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩⟩
  sl_rw [prog_eq m t]
  ihave HT' := (ent_of_eq (tab_eq c fullShare.right (V m c main_arg2))) $$ HT
  iapply (step_run c (opA m c) tabM (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (spec0_5.stage ((cfg0 (adm m 0)).slots t 5)) (hstage0_5 (((cfg0 (adm m 0)).slots t 5).cast nbuf0_5)) (spec0_6.stage ((cfg0 (adm m 0)).slots t 6)) (hstage0_6 (((cfg0 (adm m 0)).slots t 6).cast nbuf0_6)) (spec0_7.stage ((cfg0 (adm m 0)).slots t 7)) (hstage0_7 (((cfg0 (adm m 0)).slots t 7).cast nbuf0_7)) (V m c main_arg2) g0 g1 g2 g3 g4 g5 g6 (opT m c) (opX m c) (opW1 m c) (opB1 m c) (opW2 m c) (opB2 m c) (opWl m c) (opBl m c) (grid0.coords t) (hR g0 g1 g2 g3 g4 g5 g6 e0 e1 e2 e3 e4 e5 e6) g7 W)
  isplitl [HT' H0 H1 H2 H3 H4 H5 H6 H7 HI HW]
  · isplitl [HT' H0 H1 H2 H3 H4 H5 H6]
    · isplitl [HT']; · iexact HT'
      isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HI]; · rw [et]; iexact HI
    iexact HW
  iintro ⟨⟨HT, H0, H1, H2, H3, H4, H5, H6⟩, ⟨%g8, %e8, H7⟩, HI, ⟨%W', HW⟩⟩
  isplitl [HT HG HI]
  · isplitl [HT]; · iapply (ent_of_eq (tab_eq c fullShare.right (V m c main_arg2)).symm); iexact HT
    isplitl [HG]; · iexact HG
    rw [← et]; iexact HI
  isplitl [HW]
  · iexists W'; isplitr; · ipureintro; exact fun _ _ => Or.inl trivial
    iexact HW
  isplitl [H0]
  · iexists (Y 0); isplitr; · ipureintro; exact rfl
    iexists g0; isplitr; · ipureintro; exact e0
    iexact H0
  isplitl [H1]
  · iexists (Y 1); isplitr; · ipureintro; exact rfl
    iexists g1; isplitr; · ipureintro; exact e1
    iexact H1
  isplitl [H2]
  · iexists (Y 2); isplitr; · ipureintro; exact rfl
    iexists g2; isplitr; · ipureintro; exact e2
    iexact H2
  isplitl [H3]
  · iexists (Y 3); isplitr; · ipureintro; exact rfl
    iexists g3; isplitr; · ipureintro; exact e3
    iexact H3
  isplitl [H4]
  · iexists (Y 4); isplitr; · ipureintro; exact rfl
    iexists g4; isplitr; · ipureintro; exact e4
    iexact H4
  isplitl [H5]
  · iexists (Y 5); isplitr; · ipureintro; exact rfl
    iexists g5; isplitr; · ipureintro; exact e5
    iexact H5
  isplitl [H6]
  · iexists (Y 6); isplitr; · ipureintro; exact rfl
    iexists g6; isplitr; · ipureintro; exact e6
    iexact H6
  iexists _; isplitr
  swap
  · iexists g8; isplitr; · ipureintro; exact rfl
    iexact H7
  ipureintro
  rw [et, e7] at e8
  exact e8

/-! ## The run -/

/-- The kernel's own semaphores: three for the graphs, four for the first graph's row chunks. -/
abbrev osem : Fin 7 → SemLoc sig := fun j => (![.dma (asem 0).sem, .dma (asem 1).sem, .dma (asem 2).sem, .dma (qsem 0).sem, .dma (qsem 1).sem, .dma (qsem 2).sem, .dma (qsem 3).sem] : Fin 7 → SemLoc sig) j
/-- The kernel's own counters are no window's. -/
theorem ownSemFacts : Pipeline.OwnSemFacts spec0 osem := by decide
/-- They are the two arrays of counters, at zero. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ qcellP c 0 ∗ qcellP c 1 ∗ qcellP c 2 ∗ qcellP c 3) := by
  rw [Pipeline.ownSems0_eq_of_list c osem [0, 1, 2, 3, 4, 5, 6] (by decide) (by decide)]; rfl
def H0 : Finset (Ref sig .tc) := {main_arg1}
/-- The array left outside the windows. -/
theorem H0_sub : H0 ⊆ Pipeline.restRefsP sig pre0 spec0 := by decide
/-- It is the adjacency. -/
theorem H0_eq (c : Dev nD) : (bigSep H0 (fun b => ((c : Thread nD τ).loc b) ↦{fullShare} V m c b) : sProp 𝕄) = bigSep Finset.univ (homeP c (opA m c)) := by
  rw [BI.bigSep_eq_bigSepL_of_eq [main_arg1] (by decide) (by decide)]
  exact adj_eq c (opA m c)
/-- What the launch hands over gives the first invariant. -/
theorem phiD_in (c : Dev nD) : (Pipeline.ΦD osem spec0 H0 (V m) c : sProp 𝕄) ⊢ iprop((∃ r, prngReg c r) ∗ INV m c 0) := by
  rw [Pipeline.ΦD_eq, scopedRest0_eq, ownSems0_eq, H0_eq]
  unfold INV; rw [inv_end _ _ _ _ _ _ (Or.inl rfl)]; unfold invEnd qcells
  iintro ⟨⟨HB, ⟨%fs, HS⟩⟩, HG, ⟨Hc0, Hc1, Hc2, HQ⟩, HH⟩
  isplitl [HG]; · iexact HG
  isplitl [HH]; · iexact HH
  isplitl [HB]; · iexact HB
  isplitl [HS]
  · iexists fs
    iapply (ent_of_eq (congrArg (fun S => (((c : Thread nD τ).loc cc0_scratch1) ↦[S]{fullShare} fs : sProp 𝕄)) (View.set_whole cc0_scratch1).symm)); iexact HS
  isplitl [Hc0 Hc1 Hc2]
  · isplitl [Hc0]; · iexact Hc0
    isplitl [Hc1]; · iexact Hc1
    iexact Hc2
  iexact HQ
/-- The last invariant gives it back. -/
theorem phiD_out (c : Dev nD) : iprop((∃ r, prngReg c r) ∗ INV m c 9) ⊢ (Pipeline.ΦD osem spec0 H0 (V m) c : sProp 𝕄) := by
  rw [Pipeline.ΦD_eq, scopedRest0_eq, ownSems0_eq, H0_eq]
  unfold INV; rw [inv_end _ _ _ _ _ _ (Or.inr rfl)]; unfold invEnd qcells
  iintro ⟨HG, HH, HB, ⟨%fs, HS⟩, ⟨Hc0, Hc1, Hc2⟩, HQ⟩
  isplitl [HB HS]
  · isplitl [HB]; · iexact HB
    iexists fs
    iapply (ent_of_eq (congrArg (fun S => (((c : Thread nD τ).loc cc0_scratch1) ↦[S]{fullShare} fs : sProp 𝕄)) (View.set_whole cc0_scratch1))); iexact HS
  isplitl [HG]; · iexact HG
  isplitl [Hc0 Hc1 Hc2 HQ]
  · isplitl [Hc0]; · iexact Hc0
    isplitl [Hc1]; · iexact Hc1
    isplitl [Hc2]; · iexact Hc2
    iexact HQ
  iexact HH
/-- The prefetched table is the lengths. -/
theorem tabs_eq (c : Dev nD) : (Pipeline.ΦT pre0 (adm m 0).1 c : sProp 𝕄) ⊢ (((c : Thread nD τ).loc main_arg2) ↦{fullShare.right} V m c main_arg2) := by
  obtain rfl : c = 0 := Subsingleton.elim _ _
  unfold Pipeline.ΦT Pipeline.prefHeld
  rw [show (Finset.univ : Finset (Fin pre0.K)) = {0} from rfl, BI.bigSep_singleton]
  exact BIBase.Entails.rfl

set_option backward.isDefEq.respectTransparency.types false in
/-- From any memory whose last length is between 1 and 2048, with zero counters: every weakly fair execution of `@main` ends, the pipeline's
    arrays related to the launch contents by the proof data, every other buffer as the region found it, every counter at zero. -/
theorem run_main (h : PreOK m) : θ_run defs (onTc (τ := τ) (main (F := F))) (s₀ m ρ)
    (fun r => Pipeline.RDat.FramePost (cfg0 (adm m 0)) (rdat m) (V m) r ∧ r.2.sem = fun _ => 0) :=
  Pipeline.RDat.θ_run_frameP_dma (Q' := _) pcfgs (adm m) 0 launch0 osem defs₀ 𝒱₀ (rdat m) ownSemFacts H0 H0_sub m ρ main
    (hbody := body_obligation m h) (hshare := fun c w => (rdat m c).share_full (fun _ => rfl) w) (howed := fun _ _ => rfl) (V := V m)
    (hmain := Pipeline.hmainP_prefix pcfgs 0 defs₀ 𝒱₀ m main hostOps0 hostOps0_sub ⟨rfl, rfl, rfl⟩ main_chain) (hA := fun _ _ => rfl)
    (hpf := fun c k => by obtain rfl : c = 0 := Subsingleton.elim _ _; rfl)
    (hin := fun c => by
      rw [show (rdat m c).Φ 0 = iprop((((c : Thread nD τ).loc main_arg2) ↦{fullShare.right} V m c main_arg2) ∗ (∃ r, prngReg c r) ∗ INV m c 0) from rfl]
      iintro ⟨HD, HT⟩
      ihave HD' := (phiD_in m c) $$ HD
      ihave HT' := (tabs_eq m c) $$ HT
      icases HD' with ⟨HG, HI⟩
      isplitl [HT']; · iexact HT'
      isplitl [HG]; · iexact HG
      iexact HI)
    (hout := fun c => by
      rw [show (rdat m c).Φ (Fin.last (Pipeline.pin pcfgs (adm m) 0).N)
        = iprop((((c : Thread nD τ).loc main_arg2) ↦{fullShare.right} V m c main_arg2) ∗ (∃ r, prngReg c r) ∗ INV m c 9) from rfl]
      iintro ⟨-, HG, HI⟩
      iapply (phiD_out m c)
      isplitl [HG]; · iexact HG
      iexact HI)

/-! ## What the run leaves -/

/-- Graph `g`'s result, from the operands. -/
abbrev rowAt (c : Dev nD) (g : Fin 8) : Vec F S1x1 .f32 :=
  rowG c (opA m c) (opT m c) (opX m c) (opW1 m c) (opB1 m c) (opW2 m c) (opB2 m c) (opWl m c) (opBl m c) g
/-- The results. -/
def results (c : Dev nD) : S8x1.Idx → Elt F .f32 := fun y => rowAt m c (y 0) (ValueIdx.ix2 (0 : Fin 1) (0 : Fin 1))

/-- After `n` points the rows below `n` hold their results. -/
theorem leaves_rows (c : Dev nD) : ∀ (n : ℕ) (hn : n < grid0.N) (X : S8x1.Idx → Elt F .f32), (rdat m c).Leaves (7 : Fin 8) ⟨n, hn⟩ X →
    ∀ y : S8x1.Idx, (y 0).val < n → X y = results m c y := by
  have hfetch : ∀ t : Fin grid0.N, ((cfg0 (adm m 0)).win 7).fetch t = false := fun t => rfl
  have hflush : ∀ t : Fin grid0.N, t.val ≠ 8 → ((cfg0 (adm m 0)).win 7).flush t = false := fun t ht =>
    (Pipeline.Window.flush_eq_flushOf ((cfg0 (adm m 0)).win 7) t).trans
      ((by decide +kernel : ∀ t : Fin grid0.N, t.val ≠ 8 → Pipeline.Window.flushOf grid0 true cc0_transform_8 t = false) t ht)
  intro n
  induction n with
  | zero => intro _ _ _ y hy; exact absurd hy (Nat.not_lt_zero _)
  | succ k ih =>
    intro hn X hX y hy
    obtain ⟨Y, hF, hA⟩ := hX
    have hA' : OUT m c (k + 1) Y X := hA
    have hF' := ((rdat m c).finds_of_pos (w := (7 : Fin 8)) (t := ⟨k + 1, hn⟩) (hfetch _) (Nat.succ_ne_zero k) Y).1 hF
    rcases hF' with hfl | hL
    · exact absurd (hfl.symm.trans (hflush ⟨k, Nat.lt_of_succ_lt hn⟩ (by have : k + 1 < 9 := hn; show k ≠ 8; omega))) Bool.noConfusion
    · unfold OUT outRel at hA'
      rw [if_neg (Nat.succ_ne_zero k)] at hA'
      subst hA'
      unfold putRow
      have hk : k + 1 < 9 := hn
      by_cases hyk : (y 0).val = k
      · refine (if_pos hyk).trans ?_
        unfold results rowAt
        rw [show (Ring.bk 8 (k + 1 - 1) : Fin 8) = y 0 from Fin.ext ((Ring.bk_val (by omega)).trans hyk.symm)]
      · refine (if_neg hyk).trans ?_
        exact ih (by omega) Y hL y (by omega)

/-- The output window is the whole array, written back at the last point only. -/
theorem whole7 : ((cfg0 (adm m 0)).win 7).WholeAt t0_8 := by
  refine ⟨?_, fun t ht => Fin.ext ?_, ?_⟩
  · exact (Pipeline.Window.flush_eq_flushOf ((cfg0 (adm m 0)).win 7) t0_8).trans
      (by decide +kernel : Pipeline.Window.flushOf grid0 true cc0_transform_8 t0_8 = true)
  · by_contra hne
    have e := (by decide +kernel : ∀ t : Fin grid0.N, t.val ≠ 8 → Pipeline.Window.flushOf grid0 true cc0_transform_8 t = false) t hne
    exact Bool.noConfusion (((Pipeline.Window.flush_eq_flushOf ((cfg0 (adm m 0)).win 7) t).symm.trans ht).symm.trans e)
  · exact fun a => ⟨(by decide +kernel : ∀ a, cc0_transform_8 (grid0.coords t0_8) a = 0) a, rfl⟩

/-- What the run leaves of the arguments and the result. -/
theorem post_result (c : Dev nD) (r) (h : Pipeline.RDat.FramePost (cfg0 (adm m 0)) (rdat m) (V m) r) :
    r.2.mem ((c : Thread nD τ).loc main_v3) = results m c := by
  obtain ⟨X, hX, hG⟩ := ((h c).1 (7 : Fin 8)).emb_eq_of_wholeAt (whole7 m)
  funext y
  have ey : ((cfg0 (adm m 0)).win 7).arr.view.emb y = y := rfl
  refine (congrArg _ ey.symm).trans ((hG y).trans ?_)
  · refine (leaves_rows m c 8 t0_8.isLt X hX _ ?_).trans ?_
    · exact (y 0).isLt
    · rfl

/-- The arguments that a window reads, and those that no window reads, are as the region found them. -/
theorem post_args (c : Dev nD) (r) (h : Pipeline.RDat.FramePost (cfg0 (adm m 0)) (rdat m) (V m) r) :
    r.2.mem ((c : Thread nD τ).loc main_arg0) = V m c main_arg0 ∧ r.2.mem ((c : Thread nD τ).loc main_arg1) = V m c main_arg1
      ∧ r.2.mem ((c : Thread nD τ).loc main_arg2) = V m c main_arg2 ∧ r.2.mem ((c : Thread nD τ).loc main_arg3) = V m c main_arg3
      ∧ r.2.mem ((c : Thread nD τ).loc main_arg4) = V m c main_arg4 ∧ r.2.mem ((c : Thread nD τ).loc main_arg5) = V m c main_arg5
      ∧ r.2.mem ((c : Thread nD τ).loc main_arg6) = V m c main_arg6 ∧ r.2.mem ((c : Thread nD τ).loc main_arg7) = V m c main_arg7
      ∧ r.2.mem ((c : Thread nD τ).loc main_arg8) = V m c main_arg8 :=
  ⟨h.arr_in c (0 : Fin 8) rfl, (h c).2 main_arg1 (Pipeline.mem_restRefs_of main_arg1 (by decide) (show ∀ w : Fin 8, (spec0 w).arr.view.ref ≠ main_arg1 by decide)),
    (h c).2 main_arg2 (Pipeline.mem_restRefs_of main_arg2 (by decide) (show ∀ w : Fin 8, (spec0 w).arr.view.ref ≠ main_arg2 by decide)), h.arr_in c (1 : Fin 8) rfl,
    (h c).2 main_arg4 (Pipeline.mem_restRefs_of main_arg4 (by decide) (show ∀ w : Fin 8, (spec0 w).arr.view.ref ≠ main_arg4 by decide)), h.arr_in c (3 : Fin 8) rfl,
    (h c).2 main_arg6 (Pipeline.mem_restRefs_of main_arg6 (by decide) (show ∀ w : Fin 8, (spec0 w).arr.view.ref ≠ main_arg6 by decide)), h.arr_in c (5 : Fin 8) rfl,
    (h c).2 main_arg8 (Pipeline.mem_restRefs_of main_arg8 (by decide) (show ∀ w : Fin 8, (spec0 w).arr.view.ref ≠ main_arg8 by decide))⟩

/-- Before the kernel's launch only the biases are reshaped: the arguments are as launched. -/
theorem V_arg0 (c : Dev nD) : V m c main_arg0 = m ((c : Thread nD τ).loc main_arg0) := by unfold V hostOps0; after_results_simp
/-- The same of this argument. -/
theorem V_arg1 (c : Dev nD) : V m c main_arg1 = m ((c : Thread nD τ).loc main_arg1) := by unfold V hostOps0; after_results_simp
/-- The same of this argument. -/
theorem V_arg2 (c : Dev nD) : V m c main_arg2 = m ((c : Thread nD τ).loc main_arg2) := by unfold V hostOps0; after_results_simp
/-- The same of this argument. -/
theorem V_arg3 (c : Dev nD) : V m c main_arg3 = m ((c : Thread nD τ).loc main_arg3) := by unfold V hostOps0; after_results_simp
/-- The same of this argument. -/
theorem V_arg4 (c : Dev nD) : V m c main_arg4 = m ((c : Thread nD τ).loc main_arg4) := by unfold V hostOps0; after_results_simp
/-- The same of this argument. -/
theorem V_arg5 (c : Dev nD) : V m c main_arg5 = m ((c : Thread nD τ).loc main_arg5) := by unfold V hostOps0; after_results_simp
/-- The same of this argument. -/
theorem V_arg6 (c : Dev nD) : V m c main_arg6 = m ((c : Thread nD τ).loc main_arg6) := by unfold V hostOps0; after_results_simp
/-- The same of this argument. -/
theorem V_arg7 (c : Dev nD) : V m c main_arg7 = m ((c : Thread nD τ).loc main_arg7) := by unfold V hostOps0; after_results_simp
/-- The same of this argument. -/
theorem V_arg8 (c : Dev nD) : V m c main_arg8 = m ((c : Thread nD τ).loc main_arg8) := by unfold V hostOps0; after_results_simp

/-- Each bias's reshaped copy. -/
theorem V_v0 (c : Dev nD) (y : S1x64.Idx) : V m c main_v0 y = m ((c : Thread nD τ).loc main_arg4) (ValueIdx.ix1 (y 1)) := by
  have e : V m c main_v0 = shapeCast S1x64 (m ((c : Thread nD τ).loc main_arg4)) shapeCasts_S64_S1x64 := by
    unfold V hostOps0; after_results_simp; rfl
  rw [e]
  refine (shapeCast_addUnit_apply ![64] _ _ y).trans (congrArg _ (funext fun a => ?_))
  match a with
  | ⟨0, _⟩ => rfl
/-- The second bias likewise. -/
theorem V_v1 (c : Dev nD) (y : S1x32.Idx) : V m c main_v1 y = m ((c : Thread nD τ).loc main_arg6) (ValueIdx.ix1 (y 1)) := by
  have e : V m c main_v1 = shapeCast S1x32 (m ((c : Thread nD τ).loc main_arg6)) shapeCasts_S32_S1x32 := by
    unfold V hostOps0; after_results_simp; rfl
  rw [e]
  refine (shapeCast_addUnit_apply ![32] _ _ y).trans (congrArg _ (funext fun a => ?_))
  match a with
  | ⟨0, _⟩ => rfl
/-- The last bias likewise. -/
theorem V_v2 (c : Dev nD) (y : S1x1.Idx) : V m c main_v2 y = m ((c : Thread nD τ).loc main_arg8) (ValueIdx.ix1 (y 1)) := by
  have e : V m c main_v2 = shapeCast S1x1 (m ((c : Thread nD τ).loc main_arg8)) shapeCasts_S1_S1x1 := by
    unfold V hostOps0; after_results_simp; rfl
  rw [e]
  refine (shapeCast_addUnit_apply ![1] _ _ y).trans (congrArg _ (funext fun a => ?_))
  match a with
  | ⟨0, _⟩ => rfl
end Launch
end Cert.Proof.Gcn
end
-- ==== Proof.Frames.lean ====
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_lengths_in_range
public import Idealize.ShloMosaic.Lib.ReduceAll
public import Idealize.ShloMosaic.Lib.Quiescent

/-! The runs read back as the claims state them: the arguments unchanged and every counter at zero, for the kernel over both kinds of
    float value and for the reference. -/

@[expose] public section

noncomputable section

namespace Cert.Proof.Gcn

open Idealize.ShloMosaic Idealize.SL.Sem

/-- The precondition, read at one graph: its length is between 1 and 2048. -/
theorem len_of_pre {F : FTy → Type} [FloatOps F] (a0 a1 a2 a3 a4 a5 a6 a7 a8)
    (h : Cert.Pre_lengths_in_range.fn (F := F) a0 a1 a2 a3 a4 a5 a6 a7 a8 = fun _ => 1#1) (i : Cert.Pre_lengths_in_range.S8.Idx) : LenOK (a2 i) := by
  have : Subsingleton Cert.Pre_lengths_in_range.S_.Idx := ⟨fun _ _ => funext fun a => Fin.elim0 a⟩
  have e := Host.reduce_andi_all _ _ _ _ (fun a => Fin.elim0 a) (congrFun h (fun a => Fin.elim0 a)) i
  obtain ⟨e1, e2⟩ := IntOp.andi_eq_one.1 e
  have h1 : (1#32 : BitVec 32).toInt ≤ (a2 i).toInt := IntOp.cmpi_sge.1 e1
  have h2 : (a2 i).toInt ≤ (2048#32 : BitVec 32).toInt := IntOp.cmpi_sle.1 e2
  rw [show (1#32 : BitVec 32).toInt = 1 from by decide] at h1
  rw [show (2048#32 : BitVec 32).toInt = 2048 from by decide] at h2
  have hl := (a2 i).isLt
  rw [BitVec.toInt_eq_toNat_cond] at h1 h2
  unfold LenOK
  split at h1 <;> omega

section Kernel
open Cert.KernelIdeal Cert.KernelIdeal.Gen Idealize.ShloMosaic.TcCoe
variable {F : FTy → Type} [FloatOps F] (m : (ℓ : Loc nD τ sig) → Buf (Elt F) ℓ) (ρ : Dev nD → PrngReg)

/-- The kernel's run over any float values, from any launch whose lengths are all between 1 and 2048: the result is `results`, the arguments
    are unchanged, every counter is back at zero. -/
theorem run_kernel (h : ∀ (c : Dev nD) (i : S8.Idx), LenOK (m ((c.tc : Thread nD τ).loc main_arg2) i)) :
    θ_run defs (onTc (τ := τ) (main (F := F))) ⟨m, fun _ => 0, ρ⟩ (fun r => (∀ c : Dev nD,
      r.2.mem ((c.tc : Thread nD τ).loc main_v3) = results m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r hr => ⟨fun c => by
      obtain ⟨p0, p1, p2, p3, p4, p5, p6, p7, p8⟩ := post_args m c r hr.1
      exact ⟨post_result m c r hr.1, p0.trans (V_arg0 m c), p1.trans (V_arg1 m c), p2.trans (V_arg2 m c), p3.trans (V_arg3 m c),
        p4.trans (V_arg4 m c), p5.trans (V_arg5 m c), p6.trans (V_arg6 m c), p7.trans (V_arg7 m c), p8.trans (V_arg8 m c)⟩, hr.2⟩)
    (run_main m ρ fun c => by unfold opT; rw [V_arg2]; exact h c _)

/-- The same, of the arguments and the counters alone. -/
theorem run_frame (h : ∀ (c : Dev nD) (i : S8.Idx), LenOK (m ((c.tc : Thread nD τ).loc main_arg2) i)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ hr => ⟨fun c => (hr.1 c).2, hr.2⟩) (run_kernel m ρ h)

end Kernel

/-- The idealized kernel ends with its arguments unchanged and every counter at zero. -/
theorem frame_ideal : Cert.quiescent_KernelIdeal := fun m ρ hp =>
  run_frame (F := Ideal) m ρ fun c i => len_of_pre _ _ _ _ _ _ _ _ _ (hp c) i

/-- The kernel as printed is the same program over bit patterns: the same run. -/
theorem frame_kernel : Cert.quiescent_Kernel := fun m ρ hp => by
  refine cast ?_ (run_frame (F := Bits) m ρ fun c i => len_of_pre _ _ _ _ _ _ _ _ _ (hp c) i)
  sl_kernel_rfl

/-- The reference ends with its arguments unchanged; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the reference does not need. -/
theorem frame_reference_pre : Cert.quiescent_ReferenceIdeal_pre_lengths_in_range := fun m ρ _ => frame_reference m ρ trivial

end Cert.Proof.Gcn

end
-- ==== Proof.Value.lean ====
module

public import proofs.«01_k».proof.Proof.Inv
public import Idealize.ShloMosaic.Lib.Pipeline.ValueKit
public import Idealize.ShloMosaic.Lib.ValueIdx
public import Idealize.ShloMosaic.PureOps.Ideal
public import Idealize.ShloMosaic.PureOps.Ideal.Laws

/-! The kernel's computed values over the extended reals, element by element: each layer is the plain sum over its inputs. -/

@[expose] public section

set_option maxRecDepth 16384

noncomputable section

namespace Cert.Proof.Gcn

open Cert.KernelIdeal Cert.KernelIdeal.Gen
open Idealize.ShloMosaic Idealize.ShloMosaic.TcCoe

/-! ## The layers -/

section Layers
variable (X : S8x2048x128.Idx → EReal) (A : S8x2048x2048.Idx → EReal) (W1 : S128x64.Idx → EReal) (B1 : S1x64.Idx → EReal)
  (W2 : S64x32.Idx → EReal) (B2 : S1x32.Idx → EReal)

/-- The features of row `m` of graph `g` through the first weights. -/
def sup1 (g : Fin 8) (m : Fin 2048) (h : Fin 64) : EReal := ∑ f : Fin 128, X (ix3 g m f) * W1 (ix2 f h)
/-- The first layer. -/
def hid (g : Fin 8) (r : Fin 2048) (h : Fin 64) : EReal := max ((∑ m : Fin 2048, A (ix3 g r m) * sup1 X W1 g m h) + B1 (ix2 0 h)) 0
/-- The first layer through the second weights. -/
def sup2 (g : Fin 8) (r : Fin 2048) (k : Fin 32) : EReal := ∑ h : Fin 64, hid X A W1 B1 g r h * W2 (ix2 h k)
/-- The second layer. -/
def out2 (g : Fin 8) (r : Fin 2048) (k : Fin 32) : EReal := max ((∑ m : Fin 2048, A (ix3 g r m) * sup2 X A W1 B1 W2 g m k) + B2 (ix2 0 k)) 0
end Layers

/-! ## The kernel's values at an element -/

/-- The product of a graph's features with the first weights. -/
theorem pay34_at (x : Vec Ideal S1x2048x128 .f32) (w1 : Vec Ideal S128x64 .f32) (j : S2048x64.Idx) :
    k0_pay34 (F := Ideal) x w1 j = ∑ f : Fin 128, x (ix3 0 (j 0) f) * w1 (ix2 f (j 1)) := by
  unfold k0_pay34
  pointwise

/-- The second layer's input of a whole graph: the rectified first layer through the second weights. -/
theorem s2Of_at (x : Vec Ideal S1x2048x128 .f32) (w1 : Vec Ideal S128x64 .f32) (b1 : Vec Ideal S1x64 .f32) (w2 : Vec Ideal S64x32 .f32)
    (G : Vec Ideal S1x2048x2048 .f32) (y : S1x2048x32.Idx) :
    s2Of (F := Ideal) x w1 b1 w2 G y
      = ∑ h : Fin 64, max ((∑ m : Fin 2048, G (ix3 0 (y 1) m) * k0_pay34 (F := Ideal) x w1 (ix2 m h)) + b1 (ix2 0 h)) 0 * w2 (ix2 h (y 2)) := by
  unfold s2Of k0_pay7 k0_pay32
  pointwise

/-- The same of one chunk of 512 rows. -/
theorem s2Chunk_at (x : Vec Ideal S1x2048x128 .f32) (w1 : Vec Ideal S128x64 .f32) (b1 : Vec Ideal S1x64 .f32) (w2 : Vec Ideal S64x32 .f32)
    (T : Vec Ideal S1x512x2048 .f32) (y : S1x512x32.Idx) :
    s2Chunk (F := Ideal) x w1 b1 w2 T y
      = ∑ h : Fin 64, max ((∑ m : Fin 2048, T (ix3 0 (y 1) m) * k0_pay34 (F := Ideal) x w1 (ix2 m h)) + b1 (ix2 0 h)) 0 * w2 (ix2 h (y 2)) := by
  unfold s2Chunk k0_pay37
  pointwise

/-- One tile adds its rows of the second layer, those past the length replaced by 0. -/
theorem tileStep_at (L : BitVec 32) (s2 : FVec Ideal S2048x32 .f32) (b2 : Vec Ideal S1x32 .f32) (acc : FVec Ideal S1x32 .f32) (o : BitVec 32)
    (T : Vec Ideal S1x512x2048 .f32) (y : S1x32.Idx) :
    tileStep (F := Ideal) L s2 b2 acc o T y
      = acc y + ∑ r : Fin 512, Scalar.select (IntOp.cmpi .slt (IntOp.addi (BitVec.ofNat 32 r.val) o) L)
          (max ((∑ m : Fin 2048, T (ix3 0 r m) * s2 (ix2 m (y 1))) + b2 (ix2 0 (y 1))) 0) 0 := by
  unfold tileStep rowIota
  pointwise

/-- The head: the pooled sum divided by the length, through the last weights, plus the last bias. -/
theorem headR_at (L : BitVec 32) (p : FVec Ideal S1x32 .f32) (wl : Vec Ideal S32x1 .f32) (bl : Vec Ideal S1x1 .f32) (y : S1x1.Idx) :
    headR (F := Ideal) L p wl bl y
      = (∑ k : Fin 32, Ideal.div (p (ix2 (y 0) k)) ((L.toInt : ℝ) : EReal) * wl (ix2 k (y 1))) + bl y := by
  unfold headR k0_pay8
  pointwise

/-! ## Tiles -/

/-- The number of tiles of each length, tried one by one. -/
theorem tilesM_lit : ∀ n : Fin 2048, tilesM (BitVec.ofNat 32 (n.val + 1)) = (n.val + 1 + 511) / 512 := by decide +kernel

/-- The branch chosen from a length sums the tiles that hold a row of the graph. -/
theorem tilesM_eq {L : BitVec 32} (h : LenOK L) : tilesM L = (L.toNat + 511) / 512 := by
  have h1 := h.1
  have e : L.toNat - 1 + 1 = L.toNat := by omega
  have := tilesM_lit ⟨L.toNat - 1, by have := h.2; omega⟩
  rw [e] at this
  rwa [show BitVec.ofNat 32 L.toNat = L from by simp] at this

/-- A row's number compared with a length in range, as words. -/
theorem slt_iff {L : BitVec 32} (h : LenOK L) {i : ℕ} (hi : i < 2048) : IntOp.cmpi .slt (BitVec.ofNat 32 i) L = 1#1 ↔ i < L.toNat := by
  have hL := h.2
  have ei : (BitVec.ofNat 32 i).toNat = i := by rw [BitVec.toNat_ofNat]; exact Nat.mod_eq_of_lt (by omega)
  rw [IntOp.cmpi_slt, BitVec.toInt_eq_toNat_of_lt (x := BitVec.ofNat 32 i) (by omega), BitVec.toInt_eq_toNat_of_lt (x := L) (by omega), ei]
  omega

/-- The rows of `f` below the length. -/
def cut (L : BitVec 32) (f : Fin 2048 → EReal) (i : ℕ) : EReal := if i < L.toNat then f (Fin.ofNat 2048 i) else 0

/-- After `n` tiles the accumulator holds the second layer's rows below the length among the first `512 * n`. -/
theorem pool_at (XA : S8x2048x2048.Idx → EReal) (g : Fin 8) {L : BitVec 32} (h : LenOK L) (s2 : FVec Ideal S2048x32 .f32) (b2 : Vec Ideal S1x32 .f32) (y : S1x32.Idx) :
    ∀ n, n ≤ 4 → pool (F := Ideal) L s2 b2 (tileA XA g) n y
      = ∑ i ∈ Finset.range (512 * n), cut L (fun r => max ((∑ m : Fin 2048, XA (ix3 g r m) * s2 (ix2 m (y 1))) + b2 (ix2 0 (y 1))) 0) i := by
  intro n
  induction n with
  | zero => intro _; rw [Nat.mul_zero, Finset.range_zero, Finset.sum_empty]; unfold pool; pointwise
  | succ k ih =>
    intro hk
    unfold pool
    rw [tileStep_at, ih (by omega), Nat.mul_succ, Finset.sum_range_add, Finset.sum_range (n := 512)]
    refine congrArg _ (Finset.sum_congr rfl fun r _ => ?_)
    have hr := r.isLt
    have ea : IntOp.addi (BitVec.ofNat 32 r.val) (BitVec.ofNat 32 (512 * k)) = BitVec.ofNat 32 (512 * k + r.val) := by
      rw [Nat.add_comm]; exact (BitVec.ofNat_add _ _).symm
    rw [ea]
    unfold cut
    by_cases hc : 512 * k + r.val < L.toNat
    · rw [if_pos hc, (slt_iff h (by omega)).2 hc]; rfl
    · rw [if_neg hc, show Scalar.select (IntOp.cmpi .slt (BitVec.ofNat 32 (512 * k + r.val)) L) _ (0 : EReal) = 0 from if_neg fun e => hc ((slt_iff h (by omega)).1 e)]

/-- All tiles that hold a row give all rows below the length. -/
theorem pool_rows (XA : S8x2048x2048.Idx → EReal) (g : Fin 8) {L : BitVec 32} (h : LenOK L) (s2 : FVec Ideal S2048x32 .f32) (b2 : Vec Ideal S1x32 .f32) (y : S1x32.Idx) :
    pool (F := Ideal) L s2 b2 (tileA XA g) ((L.toNat + 511) / 512) y
      = ∑ r : Fin 2048, if r.val < L.toNat then max ((∑ m : Fin 2048, XA (ix3 g r m) * s2 (ix2 m (y 1))) + b2 (ix2 0 (y 1))) 0 else 0 := by
  have hL := h.2
  rw [pool_at XA g h s2 b2 y _ (by omega)]
  refine (Finset.sum_subset (Finset.range_subset_range.2 (by omega : _ ≤ 2048)) fun i _ hi => ?_).trans ?_
  · unfold cut; rw [Finset.mem_range] at hi; exact if_neg (by omega)
  · rw [Finset.sum_range]
    refine Finset.sum_congr rfl fun r _ => ?_
    unfold cut
    rw [show Fin.ofNat 2048 r.val = r from Fin.ext (Nat.mod_eq_of_lt r.isLt)]

/-! ## One graph's result -/

section Graph
variable (c : Dev nD) (XA : S8x2048x2048.Idx → EReal) (tbl : Fin 8 → BitVec 32) (X : S8x2048x128.Idx → EReal) (xg : Fin 8 → Vec Ideal S1x2048x128 .f32)
  (hx : ∀ g y, xg g y = X (ix3 g (y 1) (y 2))) (w1 : Vec Ideal S128x64 .f32) (b1 : Vec Ideal S1x64 .f32)
  (w2 : Vec Ideal S64x32 .f32) (b2 : Vec Ideal S1x32 .f32) (wl : Vec Ideal S32x1 .f32) (bl : Vec Ideal S1x1 .f32)
include hx

/-- Either way of computing it, a graph's second-layer input is the first layer through the second weights. -/
theorem s2G_at (g : Fin 8) (y : S1x2048x32.Idx) : s2G (F := Ideal) c XA xg w1 b1 w2 g y = sup2 X XA w1 b1 w2 g (y 1) (y 2) := by
  unfold s2G
  split
  · unfold s2Of0
    rw [s2Chunk_at]
    unfold sup2 hid sup1
    refine Finset.sum_congr rfl fun h _ => ?_
    simp only [pay34_at, hx]
    have e : ∀ m : Fin 2048, (tileA (F := Ideal) XA g ((y 1).val / 512) (ix3 0 (Fin.ofNat 512 (y 1).val) m) : EReal) = XA (ix3 g (y 1) m) := fun m => by
      refine congrArg (fun r => XA (ix3 g r m)) (Fin.ext ?_)
      show (512 * ((y 1).val / 512) + (y 1).val % 512) % 2048 = (y 1).val
      rw [Nat.div_add_mod]; exact Nat.mod_eq_of_lt (y 1).isLt
    refine congrArg (fun z : EReal => max (z + b1 (ix2 0 h)) 0 * w2 (ix2 h (y 2))) (Finset.sum_congr rfl fun m _ => ?_)
    exact congrArg (fun z : EReal => z * _) (e m)
  · rw [s2Of_at]
    unfold sup2 hid sup1
    refine Finset.sum_congr rfl fun h _ => ?_
    simp only [pay34_at, hx]
    rfl

/-- A graph's result: the mean over the length of its second layer's rows below the length, through the last layer. -/
theorem rowG_at (g : Fin 8) (h : LenOK (tbl g)) : rowG (F := Ideal) c XA tbl xg w1 b1 w2 b2 wl bl g (ValueIdx.ix2 (0 : Fin 1) (0 : Fin 1))
    = (∑ k : Fin 32, Ideal.div (∑ r : Fin 2048, if r.val < (tbl g).toNat then out2 X XA w1 b1 w2 b2 g r k else 0) (((tbl g).toInt : ℝ) : EReal) * wl (ix2 k 0))
      + bl (ix2 0 0) := by
  have ht : (if g.val = 7 then tilesL else tilesM) (tbl g) = ((tbl g).toNat + 511) / 512 := by
    split
    · exact tilesL_eq h
    · exact tilesM_eq h
  unfold rowG rowOf
  rw [ht, headR_at]
  refine congrArg₂ (· + ·) (Finset.sum_congr rfl fun k _ => ?_) rfl
  refine congrArg₂ (fun a b => Ideal.div a _ * b) ?_ rfl
  rw [pool_rows XA g h]
  refine Finset.sum_congr rfl fun r _ => ?_
  unfold out2
  have e : ∀ m : Fin 2048, k0_pay33 (F := Ideal) (s2G (F := Ideal) c XA xg w1 b1 w2 g) (ix2 m k) = sup2 X XA w1 b1 w2 g m k := fun m => by
    refine Eq.trans ?_ (s2G_at c XA X xg hx w1 b1 w2 g (ix3 0 m k))
    unfold k0_pay33
    pointwise
  refine if_congr Iff.rfl ?_ rfl
  refine congrArg (fun z => max (z + _) 0) (Finset.sum_congr rfl fun m _ => congrArg (_ * ·) (e m))
end Graph

end Cert.Proof.Gcn

end
-- ==== Proof.Refer.lean ====
module

public import proofs.«01_k».proof.Proof.Value
public import proofs.«01_k».proof.Proof.Gen.ReferenceIdeal.Run

/-! The reference's composed term, read at one graph: the same mean over the graph's rows, through the same two layers. -/

@[expose] public section

set_option maxRecDepth 16384

noncomputable section

namespace Cert.Proof.Gcn

open Cert.ReferenceIdeal Cert.ReferenceIdeal.Gen Idealize.ShloMosaic Idealize.ShloMosaic.TcCoe

variable (x : FVec Ideal S8x2048x128 .f32) (a : FVec Ideal S8x2048x2048 .f32) (l : IVec S8 32) (w1 : FVec Ideal S128x64 .f32)
  (b1 : FVec Ideal S64 .f32) (w2 : FVec Ideal S64x32 .f32) (b2 : FVec Ideal S32 .f32) (wl : FVec Ideal S32x1 .f32)
  (bl : FVec Ideal S1 .f32)

/-- The reference's composed term of its arguments. -/
def refTerm : FVec Ideal S8x1 .f32 :=
  addf (Host.dotGeneral dot_S8x32_S32x1_S8x1_1_0_0_1_n_n none (Host.divf (Host.reduceAdd (mulf (maximumf (addf (Host.dotGeneral dot_S8x2048x2048_S8x2048x32_S8x2048x32_2_1_1_2_0_0 none a (Host.dotGeneral dot_S8x2048x64_S64x32_S8x2048x32_2_0_01_1_n_n none (maximumf (addf (Host.dotGeneral dot_S8x2048x2048_S8x2048x64_S8x2048x64_2_1_1_2_0_0 none a (Host.dotGeneral dot_S8x2048x128_S128x64_S8x2048x64_2_0_01_1_n_n none x w1)) (broadcastInDim S8x2048x64 ![0, 1, 2] bcast_S1x1x64_S8x2048x64_0_1_2 (broadcastInDim S1x1x64 ![2] bcast_S64_S1x1x64_2 b1))) (broadcastInDim S8x2048x64 ![] bcast_S_S8x2048x64 (constant S_ .f32 0x00000000#32))) w2)) (broadcastInDim S8x2048x32 ![0, 1, 2] bcast_S1x1x32_S8x2048x32_0_1_2 (broadcastInDim S1x1x32 ![2] bcast_S32_S1x1x32_2 b2))) (broadcastInDim S8x2048x32 ![] bcast_S_S8x2048x32 (constant S_ .f32 0x00000000#32))) (broadcastInDim S8x2048x32 ![0, 1, 2] bcast_S8x2048x1_S8x2048x32_0_1_2 (broadcastInDim S8x2048x1 ![0, 1] bcast_S8x2048_S8x2048x1_0_1 (uitofp .f32 (cmpi .slt (broadcastInDim S8x2048 ![0, 1] bcast_S1x2048_S8x2048_0_1 (broadcastInDim S1x2048 ![1] bcast_S2048_S1x2048_1 (iotaInDim S2048 32 0))) (broadcastInDim S8x2048 ![0, 1] bcast_S8x1_S8x2048_0_1 (broadcastInDim S8x1 ![0] bcast_S8_S8x1_0 l))))))) (constant S_ .f32 0x00000000#32) reducesTo_S8x2048x32_S8x32_d1 h_S_) (broadcastInDim S8x32 ![0, 1] bcast_S8x1_S8x32_0_1 (broadcastInDim S8x1 ![0] bcast_S8_S8x1_0 (sitofp .f32 l)))) wl) (broadcastInDim S8x1 ![0, 1] bcast_S1x1_S8x1_0_1 (broadcastInDim S1x1 ![1] bcast_S1_S1x1_1 bl))

/-- A row below the length counts whole, a row past it not at all. -/
theorem mask_mul {L : BitVec 32} (h : LenOK L) (r : Fin 2048) (z : EReal) :
    z * (FloatOps.uitofp (F := Ideal) .f32 (IntOp.cmpi .slt (BitVec.ofNat 32 r.val) L) : EReal) = if r.val < L.toNat then z else 0 := by
  by_cases hc : r.val < L.toNat
  · rw [if_pos hc, (slt_iff h r.isLt).2 hc]
    show z * (((1#1 : BitVec 1).toNat : ℝ) : EReal) = z
    norm_num
  · have e : IntOp.cmpi .slt (BitVec.ofNat 32 r.val) L = 0#1 := by
      rcases (by decide : ∀ b : BitVec 1, b = 0#1 ∨ b = 1#1) (IntOp.cmpi .slt (BitVec.ofNat 32 r.val) L) with e | e
      · exact e
      · exact absurd ((slt_iff h r.isLt).1 e) hc
    rw [if_neg hc, e]
    show z * (((0#1 : BitVec 1).toNat : ℝ) : EReal) = 0
    norm_num

/-- The reference at one graph: the mean over the length of its second layer's rows below the length, through the last layer. -/
theorem ref_at (y : S8x1.Idx) (h : LenOK (l (ix1 (y 0)))) : refTerm x a l w1 b1 w2 b2 wl bl y
    = (∑ k : Fin 32, Ideal.div (∑ r : Fin 2048, if r.val < (l (ix1 (y 0))).toNat
          then out2 x a w1 (fun z => b1 (ix1 (z 1))) w2 (fun z => b2 (ix1 (z 1))) (y 0) r k else 0) (((l (ix1 (y 0))).toInt : ℝ) : EReal) * wl (ix2 k 0))
      + bl (ix1 0) := by
  have e1 : y 1 = (0 : Fin 1) := Subsingleton.elim (α := Fin 1) _ _
  unfold refTerm
  pointwise
  rw [e1]
  simp only [mask_mul h]
  rfl

end Cert.Proof.Gcn

end
-- ==== Proof.Algebraic.lean ====
module

public import proofs.«01_k».proof.Proof.Frames
public import proofs.«01_k».proof.Proof.Refer

/-! The idealized kernel and the reference end with the same results: both are read at one graph as the same mean through the same layers. -/

@[expose] public section

set_option maxRecDepth 16384

noncomputable section

namespace Cert.Proof.Gcn

open Idealize.ShloMosaic Idealize.SL.Sem

section Kernel
open Cert.KernelIdeal Cert.KernelIdeal.Gen Idealize.ShloMosaic.TcCoe
variable (m : (ℓ : Loc nD τ sig) → Buf (Elt Ideal) ℓ)

/-- The kernel's result at one graph, of the arguments' contents at launch. -/
theorem results_at (c : Dev nD) (y : S8x1.Idx) (h : LenOK (m ((c.tc : Thread nD τ).loc main_arg2) (ix1 (y 0)))) : results (F := Ideal) m c y
    = (∑ k : Fin 32, Ideal.div (∑ r : Fin 2048, if r.val < (m ((c.tc : Thread nD τ).loc main_arg2) (ix1 (y 0))).toNat
          then out2 (m ((c.tc : Thread nD τ).loc main_arg0)) (m ((c.tc : Thread nD τ).loc main_arg1)) (m ((c.tc : Thread nD τ).loc main_arg3))
            (fun z => m ((c.tc : Thread nD τ).loc main_arg4) (ix1 (z 1))) (m ((c.tc : Thread nD τ).loc main_arg5))
            (fun z => m ((c.tc : Thread nD τ).loc main_arg6) (ix1 (z 1))) (y 0) r k else 0)
        (((m ((c.tc : Thread nD τ).loc main_arg2) (ix1 (y 0))).toInt : ℝ) : EReal) * m ((c.tc : Thread nD τ).loc main_arg7) (ix2 k 0))
      + m ((c.tc : Thread nD τ).loc main_arg8) (ix1 0) := by
  have eT : opT m c (y 0) = m ((c.tc : Thread nD τ).loc main_arg2) (ix1 (y 0)) := by unfold opT; rw [V_arg2]; rfl
  have e4 : opB1 m c = fun z : S1x64.Idx => m ((c.tc : Thread nD τ).loc main_arg4) (ix1 (z 1)) := funext fun z => V_v0 m c z
  have e6 : opB2 m c = fun z : S1x32.Idx => m ((c.tc : Thread nD τ).loc main_arg6) (ix1 (z 1)) := funext fun z => V_v1 m c z
  have e8 : opBl m c (ix2 0 0) = m ((c.tc : Thread nD τ).loc main_arg8) (ix1 0) := V_v2 m c (ix2 0 0)
  unfold results rowAt
  refine (rowG_at c (opA m c) (opT m c) (V m c main_arg0) (opX m c) (fun _ _ => rfl) (opW1 m c) (opB1 m c) (opW2 m c) (opB2 m c) (opWl m c) (opBl m c) (y 0)
    (by rw [eT]; exact h)).trans ?_
  rw [eT, e4, e6, e8, show opA m c = m ((c.tc : Thread nD τ).loc main_arg1) from V_arg1 m c, V_arg0,
    show opW1 m c = m ((c.tc : Thread nD τ).loc main_arg3) from V_arg3 m c, show opW2 m c = m ((c.tc : Thread nD τ).loc main_arg5) from V_arg5 m c,
    show opWl m c = m ((c.tc : Thread nD τ).loc main_arg7) from V_arg7 m c]

end Kernel

/-- The idealized kernel and the reference, launched on the same arguments with every length in range, end with equal results. -/
theorem algebraic : Cert.algebraic_KernelIdeal_ReferenceIdeal := fun m ρ m' ρ' hp ha => by
  have hl := fun (c : Dev Cert.KernelIdeal.nD) i => len_of_pre _ _ _ _ _ _ _ _ _ (hp c) i
  refine ⟨fun c => results (F := Ideal) m c, (θ_run _ _ _).mono (fun _ h => h.1) (run_kernel (F := Ideal) m ρ hl),
    (θ_run _ _ _).mono (fun _ h c => ⟨(h c).1.trans ?_, (h c).2⟩) (Cert.ReferenceIdeal.Value.run (F := Ideal) m' ρ')⟩
  obtain ⟨a0, a1, a2, a3, a4, a5, a6, a7, a8⟩ := ha c
  rw [a0, a1, a2, a3, a4, a5, a6, a7, a8]
  funext y
  exact (ref_at _ _ _ _ _ _ _ _ _ y (hl c _)).trans (results_at m c y (hl c _)).symm

end Cert.Proof.Gcn

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.ReferenceIdeal
public import proofs.«01_k».proof.Proof.Gen.ReferenceIdeal.Run
public import proofs.«01_k».proof.Proof.Gen.Pre_lengths_in_range
public import proofs.«01_k».proof.Proof.Frames
public import proofs.«01_k».proof.Proof.Algebraic
public import Idealize.ShloMosaic.Init

@[expose] public section

noncomputable section

namespace Cert.Proof

open Idealize.ShloMosaic Idealize.SL.Sem Cert.Kernel

/-- Everything claimed: the frames, that idealizing changed no operation, and that the idealized kernel's results are the reference's. -/
theorem claim : Cert.Claim := ⟨Cert.Kernel.Gen.facts, Cert.KernelIdeal.Gen.facts, Cert.ReferenceIdeal.Gen.facts, Cert.Pre_lengths_in_range.Gen.facts,
  Gcn.frame_kernel, Gcn.frame_ideal, Gcn.frame_reference, Gcn.frame_reference_pre, trivial, Gcn.algebraic⟩

end Cert.Proof

end
